-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v24)) (v5 : (c : Dev Cert.KernelIdeal.nD) → Buf (Elt Ideal) ((c.tc : Thread Cert.KernelIdeal.nD Cert.KernelIdeal.τ).loc Cert.KernelIdeal.main_v16)) (v6 : (c : Dev Cert.KernelIdeal.nD) → Buf (Elt Ideal) ((c.tc : Thread Cert.KernelIdeal.nD Cert.KernelIdeal.τ).loc Cert.KernelIdeal.main_v20)) (v7 : (c : Dev Cert.KernelIdeal.nD) → Buf (Elt Ideal) ((c.tc : Thread Cert.KernelIdeal.nD Cert.KernelIdeal.τ).loc Cert.KernelIdeal.main_v22)) (v8 : (c : Dev Cert.KernelIdeal.nD) → Buf (Elt Ideal) ((c.tc : Thread Cert.KernelIdeal.nD Cert.KernelIdeal.τ).loc Cert.KernelIdeal.main_v25)) (v9 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_v16) = v5 c
          ∧ r.2.mem ((c.tc : Thread Cert.KernelIdeal.nD Cert.KernelIdeal.τ).loc Cert.KernelIdeal.main_v20) = v6 c
          ∧ r.2.mem ((c.tc : Thread Cert.KernelIdeal.nD Cert.KernelIdeal.τ).loc Cert.KernelIdeal.main_v22) = v7 c
          ∧ r.2.mem ((c.tc : Thread Cert.KernelIdeal.nD Cert.KernelIdeal.τ).loc Cert.KernelIdeal.main_v25) = v8 c
          ∧ r.2.mem ((c.tc : Thread Cert.KernelIdeal.nD Cert.KernelIdeal.τ).loc Cert.KernelIdeal.main_v14) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_v256) = v1 c
          ∧ r.2.mem ((c.tc : Thread Cert.ReferenceIdeal.nD Cert.ReferenceIdeal.τ).loc Cert.ReferenceIdeal.main_v266) = v2 c
          ∧ r.2.mem ((c.tc : Thread Cert.ReferenceIdeal.nD Cert.ReferenceIdeal.τ).loc Cert.ReferenceIdeal.main_v269) = v3 c
          ∧ r.2.mem ((c.tc : Thread Cert.ReferenceIdeal.nD Cert.ReferenceIdeal.τ).loc Cert.ReferenceIdeal.main_v276) = v4 c
          ∧ r.2.mem ((c.tc : Thread Cert.ReferenceIdeal.nD Cert.ReferenceIdeal.τ).loc Cert.ReferenceIdeal.main_v268) = v5 c
          ∧ r.2.mem ((c.tc : Thread Cert.ReferenceIdeal.nD Cert.ReferenceIdeal.τ).loc Cert.ReferenceIdeal.main_v272) = v6 c
          ∧ r.2.mem ((c.tc : Thread Cert.ReferenceIdeal.nD Cert.ReferenceIdeal.τ).loc Cert.ReferenceIdeal.main_v275) = v7 c
          ∧ r.2.mem ((c.tc : Thread Cert.ReferenceIdeal.nD Cert.ReferenceIdeal.τ).loc Cert.ReferenceIdeal.main_v217) = v8 c
          ∧ r.2.mem ((c.tc : Thread Cert.ReferenceIdeal.nD Cert.ReferenceIdeal.τ).loc Cert.ReferenceIdeal.main_v267) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S1024x256x128 : Shape := ⟨3, ![1024, 256, 128]⟩
abbrev S1024x256 : Shape := ⟨2, ![1024, 256]⟩
abbrev S128x128 : Shape := ⟨2, ![128, 128]⟩
abbrev S128 : Shape := ⟨1, ![128]⟩
abbrev S1x128 : Shape := ⟨2, ![1, 128]⟩
abbrev S1 : Shape := ⟨1, ![1]⟩
abbrev S4x128 : Shape := ⟨2, ![4, 128]⟩
abbrev S1x1 : Shape := ⟨2, ![1, 1]⟩
abbrev S4x1 : Shape := ⟨2, ![4, 1]⟩
abbrev S2x128 : Shape := ⟨2, ![2, 128]⟩
abbrev S2x1 : Shape := ⟨2, ![2, 1]⟩
abbrev S1024x768 : Shape := ⟨2, ![1024, 768]⟩
abbrev S1024x640 : Shape := ⟨2, ![1024, 640]⟩
abbrev S32x128 : Shape := ⟨2, ![32, 128]⟩
abbrev S32x256x128 : Shape := ⟨3, ![32, 256, 128]⟩
abbrev S32x768 : Shape := ⟨2, ![32, 768]⟩
abbrev S32x640 : Shape := ⟨2, ![32, 640]⟩
abbrev S32x256 : Shape := ⟨2, ![32, 256]⟩
abbrev S32x4 : Shape := ⟨2, ![32, 4]⟩
abbrev S4 : Shape := ⟨1, ![4]⟩
abbrev S1x4 : Shape := ⟨2, ![1, 4]⟩
abbrev S32x1 : Shape := ⟨2, ![32, 1]⟩
abbrev S32 : Shape := ⟨1, ![32]⟩
abbrev S32x256x1 : Shape := ⟨3, ![32, 256, 1]⟩
abbrev S8x8x1 : Shape := ⟨3, ![8, 8, 1]⟩
abbrev S8x128 : Shape := ⟨2, ![8, 128]⟩
abbrev S8x256x128 : Shape := ⟨3, ![8, 256, 128]⟩
abbrev S2048x128 : Shape := ⟨2, ![2048, 128]⟩
abbrev S8x2048 : Shape := ⟨2, ![8, 2048]⟩
abbrev S8x8x256 : Shape := ⟨3, ![8, 8, 256]⟩
abbrev S8x256 : Shape := ⟨2, ![8, 256]⟩
abbrev S8192x128 : Shape := ⟨2, ![8192, 128]⟩
abbrev S2x8192 : Shape := ⟨2, ![2, 8192]⟩
abbrev S2x32x256 : Shape := ⟨3, ![2, 32, 256]⟩
abbrev S1x32x256 : Shape := ⟨3, ![1, 32, 256]⟩
abbrev S32x1x128 : Shape := ⟨3, ![32, 1, 128]⟩
abbrev S32x122 : Shape := ⟨2, ![32, 122]⟩
abbrev S1024x1 : Shape := ⟨2, ![1024, 1]⟩
abbrev S1024 : Shape := ⟨1, ![1024]⟩

abbrev nBuf : Space → Nat
  | .hbm => 50
  | .vmem => 22
  | .smem => 0
  | _ => 0

abbrev bufTy : (tb : Table) → Fin (tcTables nBuf tb) → BufTy
  | .hbm, ⟨0, _⟩ => ⟨S1024x128, .f32⟩
  | .hbm, ⟨1, _⟩ => ⟨S1024x256x128, .f32⟩
  | .hbm, ⟨2, _⟩ => ⟨S1024x256x128, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S1x128, .f32⟩
  | .hbm, ⟨13, _⟩ => ⟨S1, .f32⟩
  | .hbm, ⟨14, _⟩ => ⟨S1x128, .f32⟩
  | .hbm, ⟨15, _⟩ => ⟨S1, .f32⟩
  | .hbm, ⟨16, _⟩ => ⟨S1x128, .f32⟩
  | .hbm, ⟨17, _⟩ => ⟨S1, .f32⟩
  | .hbm, ⟨18, _⟩ => ⟨S1x128, .f32⟩
  | .hbm, ⟨19, _⟩ => ⟨S1, .f32⟩
  | .hbm, ⟨20, _⟩ => ⟨S1x128, .f32⟩
  | .hbm, ⟨21, _⟩ => ⟨S1, .f32⟩
  | .hbm, ⟨22, _⟩ => ⟨S4x128, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S4x1, .f32⟩
  | .hbm, ⟨28, _⟩ => ⟨S2x128, .f32⟩
  | .hbm, ⟨29, _⟩ => ⟨S1x1, .f32⟩
  | .hbm, ⟨30, _⟩ => ⟨S1x1, .f32⟩
  | .hbm, ⟨31, _⟩ => ⟨S2x1, .f32⟩
  | .hbm, ⟨32, _⟩ => ⟨S1024x768, .f32⟩
  | .hbm, ⟨33, _⟩ => ⟨S1024x256x128, .f32⟩
  | .hbm, ⟨34, _⟩ => ⟨S1024x256x128, .f32⟩
  | .hbm, ⟨35, _⟩ => ⟨S1024x640, .f32⟩
  | .hbm, ⟨36, _⟩ => ⟨S1024x256, .f32⟩
  | .hbm, ⟨37, _⟩ => ⟨S1024x1, .f32⟩
  | .hbm, ⟨38, _⟩ => ⟨S1024, .f32⟩
  | .hbm, ⟨39, _⟩ => ⟨S1024x1, .f32⟩
  | .hbm, ⟨40, _⟩ => ⟨S1024, .f32⟩
  | .hbm, ⟨41, _⟩ => ⟨S1024x1, .f32⟩
  | .hbm, ⟨42, _⟩ => ⟨S1024, .f32⟩
  | .hbm, ⟨43, _⟩ => ⟨S1024x1, .f32⟩
  | .hbm, ⟨44, _⟩ => ⟨S1024, .f32⟩
  | .hbm, ⟨45, _⟩ => ⟨S1024x1, .f32⟩
  | .hbm, ⟨46, _⟩ => ⟨S1024, .f32⟩
  | .hbm, ⟨47, _⟩ => ⟨S1024x1, .f32⟩
  | .hbm, ⟨48, _⟩ => ⟨S1024, .f32⟩
  | .hbm, ⟨49, _⟩ => ⟨S1024x256, .f32⟩
  | .local _ .vmem, ⟨0, _⟩ => ⟨S32x128, .f32⟩
  | .local _ .vmem, ⟨1, _⟩ => ⟨S32x128, .f32⟩
  | .local _ .vmem, ⟨2, _⟩ => ⟨S32x256x128, .f32⟩
  | .local _ .vmem, ⟨3, _⟩ => ⟨S32x256x128, .f32⟩
  | .local _ .vmem, ⟨4, _⟩ => ⟨S32x256x128, .f32⟩
  | .local _ .vmem, ⟨5, _⟩ => ⟨S32x256x128, .f32⟩
  | .local _ .vmem, ⟨6, _⟩ => ⟨S32x768, .f32⟩
  | .local _ .vmem, ⟨7, _⟩ => ⟨S32x768, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S4x128, .f32⟩
  | .local _ .vmem, ⟨13, _⟩ => ⟨S4x1, .f32⟩
  | .local _ .vmem, ⟨14, _⟩ => ⟨S2x128, .f32⟩
  | .local _ .vmem, ⟨15, _⟩ => ⟨S2x1, .f32⟩
  | .local _ .vmem, ⟨16, _⟩ => ⟨S32x256x128, .f32⟩
  | .local _ .vmem, ⟨17, _⟩ => ⟨S32x256x128, .f32⟩
  | .local _ .vmem, ⟨18, _⟩ => ⟨S32x256x128, .f32⟩
  | .local _ .vmem, ⟨19, _⟩ => ⟨S32x256x128, .f32⟩
  | .local _ .vmem, ⟨20, _⟩ => ⟨S32x640, .f32⟩
  | .local _ .vmem, ⟨21, _⟩ => ⟨S32x640, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11_0 : Ref sig .tc := ⟨.hbm, 33, rfl⟩
abbrev main_v11_1 : Ref sig .tc := ⟨.hbm, 34, rfl⟩
abbrev main_v11_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x640 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S1024x128 : Shape := ⟨2, ![1024, 128]⟩
abbrev S1024x256x128 : Shape := ⟨3, ![1024, 256, 128]⟩
abbrev S1024x256 : Shape := ⟨2, ![1024, 256]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x1 : Shape := ⟨2, ![128, 1]⟩
abbrev S1024x1 : Shape := ⟨2, ![1024, 1]⟩
abbrev S1x1 : Shape := ⟨2, ![1, 1]⟩
abbrev S_ : Shape := ⟨0, ![]⟩
abbrev S1024 : Shape := ⟨1, ![1024]⟩
abbrev S1024x256x1 : Shape := ⟨3, ![1024, 256, 1]⟩
abbrev S1x1x1 : Shape := ⟨3, ![1, 1, 1]⟩
abbrev S1024x1x1 : Shape := ⟨3, ![1024, 1, 1]⟩
abbrev S1x256 : Shape := ⟨2, ![1, 256]⟩
abbrev S1024x1x128 : Shape := ⟨3, ![1024, 1, 128]⟩

abbrev nBuf : Space → Nat
  | .hbm => 520
  | .vmem => 0
  | .smem => 0
  | _ => 0

abbrev hbmTy0_0 (i : Nat) : BufTy := match i % 128 with
  | 0 => ⟨S1024x128, .f32⟩
  | 1 => ⟨S1024x256x128, .f32⟩
  | 2 => ⟨S1024x256x128, .f32⟩
  | 3 => ⟨S1024x256, .f32⟩
  | 4 => ⟨S1024x256, .f32⟩
  | 5 => ⟨S1024x256, .f32⟩
  | 6 => ⟨S128x128, .f32⟩
  | 7 => ⟨S128, .f32⟩
  | 8 => ⟨S128x128, .f32⟩
  | 9 => ⟨S128, .f32⟩
  | 10 => ⟨S1x128, .f32⟩
  | 11 => ⟨S1, .f32⟩
  | 12 => ⟨S1x128, .f32⟩
  | 13 => ⟨S1, .f32⟩
  | 14 => ⟨S1x128, .f32⟩
  | 15 => ⟨S1, .f32⟩
  | 16 => ⟨S1x128, .f32⟩
  | 17 => ⟨S1, .f32⟩
  | 18 => ⟨S1x128, .f32⟩
  | 19 => ⟨S1, .f32⟩
  | 20 => ⟨S1x128, .f32⟩
  | 21 => ⟨S1, .f32⟩
  | 22 => ⟨S128x128, .f32⟩
  | 23 => ⟨S1024x128, .f32⟩
  | 24 => ⟨S1x128, .f32⟩
  | 25 => ⟨S1024x128, .f32⟩
  | 26 => ⟨S1024x128, .f32⟩
  | 27 => ⟨S1024x128, .f32⟩
  | 28 => ⟨S128x128, .f32⟩
  | 29 => ⟨S1024x128, .f32⟩
  | 30 => ⟨S1x128, .f32⟩
  | 31 => ⟨S1024x128, .f32⟩
  | 32 => ⟨S1024x128, .f32⟩
  | 33 => ⟨S1024x128, .f32⟩
  | 34 => ⟨S128x1, .f32⟩
  | 35 => ⟨S1024x1, .f32⟩
  | 36 => ⟨S1x1, .f32⟩
  | 37 => ⟨S1024x1, .f32⟩
  | 38 => ⟨S1024x1, .f32⟩
  | 39 => ⟨S1024x1, .f32⟩
  | 40 => ⟨S1024x1, .f32⟩
  | 41 => ⟨S_, .f32⟩
  | 42 => ⟨S1024x1, .f32⟩
  | 43 => ⟨S1024x1, .f32⟩
  | 44 => ⟨S_, .f32⟩
  | 45 => ⟨S1024x1, .f32⟩
  | 46 => ⟨S1024x1, .f32⟩
  | 47 => ⟨S128x1, .f32⟩
  | 48 => ⟨S1024x1, .f32⟩
  | 49 => ⟨S1x1, .f32⟩
  | 50 => ⟨S1024x1, .f32⟩
  | 51 => ⟨S1024x1, .f32⟩
  | 52 => ⟨S1024x1, .f32⟩
  | 53 => ⟨S1024x1, .f32⟩
  | 54 => ⟨S_, .f32⟩
  | 55 => ⟨S1024x1, .f32⟩
  | 56 => ⟨S1024x1, .f32⟩
  | 57 => ⟨S_, .f32⟩
  | 58 => ⟨S1024x1, .f32⟩
  | 59 => ⟨S1024x1, .f32⟩
  | 60 => ⟨S1024x128, .f32⟩
  | 61 => ⟨S_, .f32⟩
  | 62 => ⟨S1024, .f32⟩
  | 63 => ⟨S1024x1, .f32⟩
  | 64 => ⟨S1024x1, .f32⟩
  | 65 => ⟨S_, .f32⟩
  | 66 => ⟨S1024x1, .f32⟩
  | 67 => ⟨S1024x1, .f32⟩
  | 68 => ⟨S1024x128, .f32⟩
  | 69 => ⟨S1024x128, .f32⟩
  | 70 => ⟨S1024x256x128, .f32⟩
  | 71 => ⟨S_, .f32⟩
  | 72 => ⟨S1024x256, .f32⟩
  | 73 => ⟨S1024x256x1, .f32⟩
  | 74 => ⟨S1024x256x1, .f32⟩
  | 75 => ⟨S_, .f32⟩
  | 76 => ⟨S1024x256x1, .f32⟩
  | 77 => ⟨S1024x256x1, .f32⟩
  | 78 => ⟨S1024x256x128, .f32⟩
  | 79 => ⟨S1024x256x128, .f32⟩
  | 80 => ⟨S1024x256, .f32⟩
  | 81 => ⟨S1024x256x128, .f32⟩
  | 82 => ⟨S_, .f32⟩
  | 83 => ⟨S1024x256, .f32⟩
  | 84 => ⟨S1024x256, .f32⟩
  | 85 => ⟨S_, .f32⟩
  | 86 => ⟨S1024x256, .f32⟩
  | 87 => ⟨S1024x256, .f32⟩
  | 88 => ⟨S_, .f32⟩
  | 89 => ⟨S_, .f32⟩
  | 90 => ⟨S_, .f32⟩
  | 91 => ⟨S1024x256, .f32⟩
  | 92 => ⟨S1024x256, .f32⟩
  | 93 => ⟨S_, .f32⟩
  | 94 => ⟨S1024x256, .f32⟩
  | 95 => ⟨S1024x256, .f32⟩
  | 96 => ⟨S128x1, .f32⟩
  | 97 => ⟨S1024x256x1, .f32⟩
  | 98 => ⟨S1x1x1, .f32⟩
  | 99 => ⟨S1024x256x1, .f32⟩
  | 100 => ⟨S1024x256x1, .f32⟩
  | 101 => ⟨S1024x256x1, .f32⟩
  | 102 => ⟨S1024x256x1, .f32⟩
  | 103 => ⟨S_, .f32⟩
  | 104 => ⟨S1024x256x1, .f32⟩
  | 105 => ⟨S1024x256x1, .f32⟩
  | 106 => ⟨S_, .f32⟩
  | 107 => ⟨S1024x256x1, .f32⟩
  | 108 => ⟨S1024x256x1, .f32⟩
  | 109 => ⟨S1024x256, .f32⟩
  | 110 => ⟨S_, .f32⟩
  | 111 => ⟨S1024x256, .f32⟩
  | 112 => ⟨S1024x256, .f32⟩
  | 113 => ⟨S_, .f32⟩
  | 114 => ⟨S1024x256, .f32⟩
  | 115 => ⟨S1024x256, .f32⟩
  | 116 => ⟨S1024x256, .f32⟩
  | 117 => ⟨S_, .f32⟩
  | 118 => ⟨S_, .f32⟩
  | 119 => ⟨S_, .f32⟩
  | 120 => ⟨S1024x256, .f32⟩
  | 121 => ⟨S1024x256, .f32⟩
  | 122 => ⟨S_, .f32⟩
  | 123 => ⟨S1024x256, .f32⟩
  | 124 => ⟨S1024x256, .f32⟩
  | 125 => ⟨S128x1, .f32⟩
  | 126 => ⟨S1024x256x1, .f32⟩
  | 127 => ⟨S1x1x1, .f32⟩
  | _ => ⟨S1024x128, .f32⟩

abbrev hbmTy0_1 (i : Nat) : BufTy := match i % 128 with
  | 0 => ⟨S1024x256x1, .f32⟩
  | 1 => ⟨S1024x256x1, .f32⟩
  | 2 => ⟨S1024x256x1, .f32⟩
  | 3 => ⟨S1024x256x1, .f32⟩
  | 4 => ⟨S_, .f32⟩
  | 5 => ⟨S1024x256x1, .f32⟩
  | 6 => ⟨S1024x256x1, .f32⟩
  | 7 => ⟨S_, .f32⟩
  | 8 => ⟨S1024x256x1, .f32⟩
  | 9 => ⟨S1024x256x1, .f32⟩
  | 10 => ⟨S1024x256, .f32⟩
  | 11 => ⟨S_, .f32⟩
  | 12 => ⟨S1024x256, .f32⟩
  | 13 => ⟨S1024x256, .f32⟩
  | 14 => ⟨S_, .f32⟩
  | 15 => ⟨S1024x256, .f32⟩
  | 16 => ⟨S1024x256, .f32⟩
  | 17 => ⟨S1024x256, .f32⟩
  | 18 => ⟨S_, .f32⟩
  | 19 => ⟨S_, .f32⟩
  | 20 => ⟨S_, .f32⟩
  | 21 => ⟨S1024x256, .f32⟩
  | 22 => ⟨S1024x256, .f32⟩
  | 23 => ⟨S_, .f32⟩
  | 24 => ⟨S1024x256, .f32⟩
  | 25 => ⟨S1024x256, .f32⟩
  | 26 => ⟨S_, .f32⟩
  | 27 => ⟨S1024x256, .f32⟩
  | 28 => ⟨S1024x256, .f32⟩
  | 29 => ⟨S_, .f32⟩
  | 30 => ⟨S1024x256, .f32⟩
  | 31 => ⟨S1024x256, .f32⟩
  | 32 => ⟨S1024x256, .f32⟩
  | 33 => ⟨S_, .f32⟩
  | 34 => ⟨S_, .f32⟩
  | 35 => ⟨S_, .f32⟩
  | 36 => ⟨S1024x256, .f32⟩
  | 37 => ⟨S1024x256, .f32⟩
  | 38 => ⟨S_, .f32⟩
  | 39 => ⟨S1024x256, .f32⟩
  | 40 => ⟨S1024x256, .f32⟩
  | 41 => ⟨S_, .f32⟩
  | 42 => ⟨S_, .f32⟩
  | 43 => ⟨S_, .f32⟩
  | 44 => ⟨S1024x256, .f32⟩
  | 45 => ⟨S1024x256, .f32⟩
  | 46 => ⟨S_, .f32⟩
  | 47 => ⟨S1024x256, .f32⟩
  | 48 => ⟨S1024x256, .f32⟩
  | 49 => ⟨S_, .f32⟩
  | 50 => ⟨S1024x256, .f32⟩
  | 51 => ⟨S1024x256, .f32⟩
  | 52 => ⟨S_, .f32⟩
  | 53 => ⟨S1024, .f32⟩
  | 54 => ⟨S_, .f32⟩
  | 55 => ⟨S1024, .f32⟩
  | 56 => ⟨S1024, .f32⟩
  | 57 => ⟨S1024x1, .f32⟩
  | 58 => ⟨S1024x256, .f32⟩
  | 59 => ⟨S1024x256, .f32⟩
  | 60 => ⟨S1024x256, .f32⟩
  | 61 => ⟨S_, .f32⟩
  | 62 => ⟨S1024, .f32⟩
  | 63 => ⟨S1024x1, .f32⟩
  | 64 => ⟨S1024x256, .f32⟩
  | 65 => ⟨S1024x256, .f32⟩
  | 66 => ⟨S_, .f32⟩
  | 67 => ⟨S1024x256, .f32⟩
  | 68 => ⟨S1024x256, .f32⟩
  | 69 => ⟨S_, .f32⟩
  | 70 => ⟨S1024x256, .f32⟩
  | 71 => ⟨S1024x256, .f32⟩
  | 72 => ⟨S_, .f32⟩
  | 73 => ⟨S1024x256, .f32⟩
  | 74 => ⟨S1024x256, .f32⟩
  | 75 => ⟨S_, .f32⟩
  | 76 => ⟨S1024x256, .f32⟩
  | 77 => ⟨S1024x256, .f32⟩
  | 78 => ⟨S1024x256, .f32⟩
  | 79 => ⟨S_, .f32⟩
  | 80 => ⟨S1024x256, .f32⟩
  | 81 => ⟨S1024x256, .f32⟩
  | 82 => ⟨S1024x256, .f32⟩
  | 83 => ⟨S_, .f32⟩
  | 84 => ⟨S1024x256, .f32⟩
  | 85 => ⟨S1024x256, .f32⟩
  | 86 => ⟨S_, .f32⟩
  | 87 => ⟨S1024x256, .f32⟩
  | 88 => ⟨S1024x256, .f32⟩
  | 89 => ⟨S1024x256, .f32⟩
  | 90 => ⟨S_, .f32⟩
  | 91 => ⟨S1024x256, .f32⟩
  | 92 => ⟨S1024x256, .f32⟩
  | 93 => ⟨S_, .f32⟩
  | 94 => ⟨S1024x256, .f32⟩
  | 95 => ⟨S1024x256, .f32⟩
  | 96 => ⟨S1024x256, .f32⟩
  | 97 => ⟨S_, .f32⟩
  | 98 => ⟨S1024x256, .f32⟩
  | 99 => ⟨S1024x256, .f32⟩
  | 100 => ⟨S_, .f32⟩
  | 101 => ⟨S1024, .f32⟩
  | 102 => ⟨S_, .f32⟩
  | 103 => ⟨S1024, .f32⟩
  | 104 => ⟨S1024, .f32⟩
  | 105 => ⟨S1024x1, .f32⟩
  | 106 => ⟨S1024x256, .f32⟩
  | 107 => ⟨S1024x256, .f32⟩
  | 108 => ⟨S1024x256, .f32⟩
  | 109 => ⟨S_, .f32⟩
  | 110 => ⟨S1024, .f32⟩
  | 111 => ⟨S1024x1, .f32⟩
  | 112 => ⟨S1024x256, .f32⟩
  | 113 => ⟨S1024x256, .f32⟩
  | 114 => ⟨S1024x1, .f32⟩
  | 115 => ⟨S1024x1, .i32⟩
  | 116 => ⟨S1024, .i32⟩
  | 117 => ⟨S1024x1, .f32⟩
  | 118 => ⟨S1024x1, .i32⟩
  | 119 => ⟨S1024, .i32⟩
  | 120 => ⟨S1024x1, .i32⟩
  | 121 => ⟨S_, .i32⟩
  | 122 => ⟨S1024x1, .i32⟩
  | 123 => ⟨S1024x1, .i1⟩
  | 124 => ⟨S_, .i32⟩
  | 125 => ⟨S1024x1, .i32⟩
  | 126 => ⟨S1024x1, .i32⟩
  | 127 => ⟨S1024x1, .i32⟩
  | _ => ⟨S1024x128, .f32⟩

abbrev hbmTy0_2 (i : Nat) : BufTy := match i % 128 with
  | 0 => ⟨S1024x1x1, .i32⟩
  | 1 => ⟨S1, .i32⟩
  | 2 => ⟨S_, .i32⟩
  | 3 => ⟨S1024x1x1, .i32⟩
  | 4 => ⟨S1024x1x1, .i1⟩
  | 5 => ⟨S1x1x1, .i32⟩
  | 6 => ⟨S1024x1x1, .i32⟩
  | 7 => ⟨S1024x1x1, .i1⟩
  | 8 => ⟨S1024x1x1, .i1⟩
  | 9 => ⟨S_, .i1⟩
  | 10 => ⟨S1024x1, .i1⟩
  | 11 => ⟨S1024x1, .f32⟩
  | 12 => ⟨S_, .f32⟩
  | 13 => ⟨S1024x1, .f32⟩
  | 14 => ⟨S1024x1, .f32⟩
  | 15 => ⟨S1024x1, .i32⟩
  | 16 => ⟨S_, .i32⟩
  | 17 => ⟨S1024x1, .i32⟩
  | 18 => ⟨S1024x1, .i1⟩
  | 19 => ⟨S_, .i32⟩
  | 20 => ⟨S1024x1, .i32⟩
  | 21 => ⟨S1024x1, .i32⟩
  | 22 => ⟨S1024x1, .i32⟩
  | 23 => ⟨S1024x1x1, .i32⟩
  | 24 => ⟨S1, .i32⟩
  | 25 => ⟨S_, .i32⟩
  | 26 => ⟨S1024x1x1, .i32⟩
  | 27 => ⟨S1024x1x1, .i1⟩
  | 28 => ⟨S1x1x1, .i32⟩
  | 29 => ⟨S1024x1x1, .i32⟩
  | 30 => ⟨S1024x1x1, .i1⟩
  | 31 => ⟨S1024x1x1, .i1⟩
  | 32 => ⟨S_, .i1⟩
  | 33 => ⟨S1024x1, .i1⟩
  | 34 => ⟨S1024x1, .f32⟩
  | 35 => ⟨S_, .f32⟩
  | 36 => ⟨S1024x1, .f32⟩
  | 37 => ⟨S1024x1, .f32⟩
  | 38 => ⟨S1024x1, .i32⟩
  | 39 => ⟨S_, .i32⟩
  | 40 => ⟨S1024x1, .i32⟩
  | 41 => ⟨S1024x1, .i1⟩
  | 42 => ⟨S_, .i32⟩
  | 43 => ⟨S1024x1, .i32⟩
  | 44 => ⟨S1024x1, .i32⟩
  | 45 => ⟨S1024x1, .i32⟩
  | 46 => ⟨S1024x1x1, .i32⟩
  | 47 => ⟨S1, .i32⟩
  | 48 => ⟨S_, .i32⟩
  | 49 => ⟨S1024x1x1, .i32⟩
  | 50 => ⟨S1024x1x1, .i1⟩
  | 51 => ⟨S1x1x1, .i32⟩
  | 52 => ⟨S1024x1x1, .i32⟩
  | 53 => ⟨S1024x1x1, .i1⟩
  | 54 => ⟨S1024x1x1, .i1⟩
  | 55 => ⟨S_, .i1⟩
  | 56 => ⟨S1024x1, .i1⟩
  | 57 => ⟨S1024x1, .f32⟩
  | 58 => ⟨S_, .f32⟩
  | 59 => ⟨S1024x1, .f32⟩
  | 60 => ⟨S1024x1, .f32⟩
  | 61 => ⟨S1024x1, .i32⟩
  | 62 => ⟨S_, .i32⟩
  | 63 => ⟨S1024x1, .i32⟩
  | 64 => ⟨S1024x1, .i1⟩
  | 65 => ⟨S_, .i32⟩
  | 66 => ⟨S1024x1, .i32⟩
  | 67 => ⟨S1024x1, .i32⟩
  | 68 => ⟨S1024x1, .i32⟩
  | 69 => ⟨S1024x1x1, .i32⟩
  | 70 => ⟨S1, .i32⟩
  | 71 => ⟨S_, .i32⟩
  | 72 => ⟨S1024x1x1, .i32⟩
  | 73 => ⟨S1024x1x1, .i1⟩
  | 74 => ⟨S1x1x1, .i32⟩
  | 75 => ⟨S1024x1x1, .i32⟩
  | 76 => ⟨S1024x1x1, .i1⟩
  | 77 => ⟨S1024x1x1, .i1⟩
  | 78 => ⟨S_, .i1⟩
  | 79 => ⟨S1024x1, .i1⟩
  | 80 => ⟨S1024x1, .f32⟩
  | 81 => ⟨S_, .f32⟩
  | 82 => ⟨S1024x1, .f32⟩
  | 83 => ⟨S1024x1, .f32⟩
  | 84 => ⟨S128x1, .f32⟩
  | 85 => ⟨S1024x1, .f32⟩
  | 86 => ⟨S1x1, .f32⟩
  | 87 => ⟨S1024x1, .f32⟩
  | 88 => ⟨S1024x1, .f32⟩
  | 89 => ⟨S_, .f32⟩
  | 90 => ⟨S1024x1, .f32⟩
  | 91 => ⟨S1024x1, .f32⟩
  | 92 => ⟨S1024x1, .f32⟩
  | 93 => ⟨S_, .f32⟩
  | 94 => ⟨S1024x1, .f32⟩
  | 95 => ⟨S1024x1, .f32⟩
  | 96 => ⟨S_, .f32⟩
  | 97 => ⟨S1024x1, .f32⟩
  | 98 => ⟨S1024x1, .f32⟩
  | 99 => ⟨S1024x1, .f32⟩
  | 100 => ⟨S_, .f32⟩
  | 101 => ⟨S1024x1, .f32⟩
  | 102 => ⟨S1024x1, .f32⟩
  | 103 => ⟨S_, .f32⟩
  | 104 => ⟨S1024x1, .f32⟩
  | 105 => ⟨S1024x1, .f32⟩
  | 106 => ⟨S1024x1, .f32⟩
  | 107 => ⟨S_, .f32⟩
  | 108 => ⟨S1024x1, .f32⟩
  | 109 => ⟨S1024x1, .f32⟩
  | 110 => ⟨S1024x1, .f32⟩
  | 111 => ⟨S1024x1, .f32⟩
  | 112 => ⟨S1024x1, .f32⟩
  | 113 => ⟨S_, .f32⟩
  | 114 => ⟨S1024x1, .f32⟩
  | 115 => ⟨S1024x1, .f32⟩
  | 116 => ⟨S_, .f32⟩
  | 117 => ⟨S1024x1, .f32⟩
  | 118 => ⟨S1024x1, .f32⟩
  | 119 => ⟨S_, .f32⟩
  | 120 => ⟨S1024x1, .f32⟩
  | 121 => ⟨S1024x1, .i1⟩
  | 122 => ⟨S_, .f32⟩
  | 123 => ⟨S1024x1, .f32⟩
  | 124 => ⟨S1024x1, .i1⟩
  | 125 => ⟨S1024x1, .i1⟩
  | 126 => ⟨S1024, .i1⟩
  | 127 => ⟨S1024, .f32⟩
  | _ => ⟨S1024x128, .f32⟩

abbrev hbmTy0_3 (i : Nat) : BufTy := match i % 128 with
  | 0 => ⟨S_, .f32⟩
  | 1 => ⟨S1024, .f32⟩
  | 2 => ⟨S1024, .i1⟩
  | 3 => ⟨S1024, .i1⟩
  | 4 => ⟨S1024, .i32⟩
  | 5 => ⟨S1024x1, .i32⟩
  | 6 => ⟨S1x256, .i32⟩
  | 7 => ⟨S1024x256, .i32⟩
  | 8 => ⟨S1024x256, .i32⟩
  | 9 => ⟨S1024x256, .i1⟩
  | 10 => ⟨S1024x256, .f32⟩
  | 11 => ⟨S128x1, .f32⟩
  | 12 => ⟨S1024x1, .f32⟩
  | 13 => ⟨S1x1, .f32⟩
  | 14 => ⟨S1024x1, .f32⟩
  | 15 => ⟨S1024x1, .f32⟩
  | 16 => ⟨S_, .f32⟩
  | 17 => ⟨S1024x1, .f32⟩
  | 18 => ⟨S1024x1, .f32⟩
  | 19 => ⟨S1024x1, .f32⟩
  | 20 => ⟨S1024x1, .f32⟩
  | 21 => ⟨S1024x1, .f32⟩
  | 22 => ⟨S_, .f32⟩
  | 23 => ⟨S1024x1, .f32⟩
  | 24 => ⟨S1024x1, .f32⟩
  | 25 => ⟨S_, .f32⟩
  | 26 => ⟨S1024x1, .f32⟩
  | 27 => ⟨S1024x1, .f32⟩
  | 28 => ⟨S_, .f32⟩
  | 29 => ⟨S1024x256, .f32⟩
  | 30 => ⟨S1024x256, .f32⟩
  | 31 => ⟨S_, .f32⟩
  | 32 => ⟨S_, .f32⟩
  | 33 => ⟨S_, .f32⟩
  | 34 => ⟨S1024x256, .f32⟩
  | 35 => ⟨S1024x256, .f32⟩
  | 36 => ⟨S_, .f32⟩
  | 37 => ⟨S1024x256, .f32⟩
  | 38 => ⟨S1024x256, .f32⟩
  | 39 => ⟨S_, .f32⟩
  | 40 => ⟨S1024x1, .f32⟩
  | 41 => ⟨S1024x1, .f32⟩
  | 42 => ⟨S_, .f32⟩
  | 43 => ⟨S1024x1, .f32⟩
  | 44 => ⟨S1024x1, .f32⟩
  | 45 => ⟨S1024x256, .f32⟩
  | 46 => ⟨S1024x256, .f32⟩
  | 47 => ⟨S_, .f32⟩
  | 48 => ⟨S1024x256, .f32⟩
  | 49 => ⟨S1024x256, .f32⟩
  | 50 => ⟨S1024x256, .f32⟩
  | 51 => ⟨S_, .f32⟩
  | 52 => ⟨S1024x256, .f32⟩
  | 53 => ⟨S1024x256, .f32⟩
  | 54 => ⟨S1024x256, .f32⟩
  | 55 => ⟨S1024x256x1, .f32⟩
  | 56 => ⟨S1024x1, .i1⟩
  | 57 => ⟨S_, .f32⟩
  | 58 => ⟨S1024x1, .f32⟩
  | 59 => ⟨S1024x1, .f32⟩
  | 60 => ⟨S_, .f32⟩
  | 61 => ⟨S1024x1, .f32⟩
  | 62 => ⟨S1024x1, .f32⟩
  | 63 => ⟨S_, .f32⟩
  | 64 => ⟨S1024x1, .f32⟩
  | 65 => ⟨S1024x1, .f32⟩
  | 66 => ⟨S_, .f32⟩
  | 67 => ⟨S1024x1, .f32⟩
  | 68 => ⟨S1024x1, .f32⟩
  | 69 => ⟨S1024x1, .f32⟩
  | 70 => ⟨S1024x1x1, .f32⟩
  | 71 => ⟨S1024x1, .i1⟩
  | 72 => ⟨S_, .f32⟩
  | 73 => ⟨S1024x1, .f32⟩
  | 74 => ⟨S1024x1, .f32⟩
  | 75 => ⟨S_, .f32⟩
  | 76 => ⟨S1024x1, .f32⟩
  | 77 => ⟨S1024x1, .f32⟩
  | 78 => ⟨S_, .f32⟩
  | 79 => ⟨S1024x1, .f32⟩
  | 80 => ⟨S1024x1, .f32⟩
  | 81 => ⟨S_, .f32⟩
  | 82 => ⟨S1024x1, .f32⟩
  | 83 => ⟨S1024x1, .f32⟩
  | 84 => ⟨S1024x1, .f32⟩
  | 85 => ⟨S1024x1x1, .f32⟩
  | 86 => ⟨S1024x256x1, .f32⟩
  | 87 => ⟨S1024x256x1, .f32⟩
  | 88 => ⟨S1024x1x128, .f32⟩
  | 89 => ⟨S1024x256x128, .f32⟩
  | 90 => ⟨S1024x256x128, .f32⟩
  | 91 => ⟨S1024x256x128, .f32⟩
  | 92 => ⟨S1024x256x128, .f32⟩
  | 93 => ⟨S1024x256x128, .f32⟩
  | 94 => ⟨S1024x256x1, .f32⟩
  | 95 => ⟨S1024x256x1, .f32⟩
  | 96 => ⟨S1024x1x128, .f32⟩
  | 97 => ⟨S1024x256x128, .f32⟩
  | 98 => ⟨S1024x256x128, .f32⟩
  | 99 => ⟨S1024x256x128, .f32⟩
  | 100 => ⟨S1024x256x128, .f32⟩
  | 101 => ⟨S1024x256x128, .f32⟩
  | 102 => ⟨S_, .f32⟩
  | 103 => ⟨S1024x1, .f32⟩
  | 104 => ⟨S1024x1, .f32⟩
  | 105 => ⟨S_, .f32⟩
  | 106 => ⟨S1024x1, .f32⟩
  | 107 => ⟨S1024x1, .f32⟩
  | 108 => ⟨S1024x256, .f32⟩
  | 109 => ⟨S1024x256, .f32⟩
  | 110 => ⟨S_, .f32⟩
  | 111 => ⟨S1024x256, .f32⟩
  | 112 => ⟨S1024x256, .f32⟩
  | 113 => ⟨S1024x256, .f32⟩
  | 114 => ⟨S_, .f32⟩
  | 115 => ⟨S_, .f32⟩
  | 116 => ⟨S_, .f32⟩
  | 117 => ⟨S1024x256, .f32⟩
  | 118 => ⟨S1024x256, .f32⟩
  | 119 => ⟨S_, .f32⟩
  | 120 => ⟨S1024x256, .f32⟩
  | 121 => ⟨S1024x256, .f32⟩
  | 122 => ⟨S1024, .f32⟩
  | 123 => ⟨S1024, .f32⟩
  | 124 => ⟨S1024, .f32⟩
  | 125 => ⟨S_, .f32⟩
  | 126 => ⟨S1024, .f32⟩
  | 127 => ⟨S_, .f32⟩
  | _ => ⟨S1024x128, .f32⟩

abbrev hbmTy0_4 (i : Nat) : BufTy := match i % 128 with
  | 0 => ⟨S1024, .f32⟩
  | 1 => ⟨S1024, .f32⟩
  | 2 => ⟨S_, .f32⟩
  | 3 => ⟨S1024, .f32⟩
  | 4 => ⟨S_, .f32⟩
  | 5 => ⟨S1024, .f32⟩
  | 6 => ⟨S1024, .f32⟩
  | 7 => ⟨S1024, .f32⟩
  | _ => ⟨S1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_1 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_call0_v0 : Ref sig .tc := ⟨.hbm, 60, rfl⟩
abbrev main_call0_cst : Ref sig .tc := ⟨.hbm, 61, rfl⟩
abbrev main_call0_v1 : Ref sig .tc := ⟨.hbm, 62, rfl⟩
abbrev main_call0_v2 : Ref sig .tc := ⟨.hbm, 63, rfl⟩
abbrev main_v34 : Ref sig .tc := ⟨.hbm, 64, rfl⟩
abbrev main_cst_3 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_call1_v0 : Ref sig .tc := ⟨.hbm, 70, rfl⟩
abbrev main_call1_cst : Ref sig .tc := ⟨.hbm, 71, rfl⟩
abbrev main_call1_v1 : Ref sig .tc := ⟨.hbm, 72, rfl⟩
abbrev main_call1_v2 : Ref sig .tc := ⟨.hbm, 73, rfl⟩
abbrev main_v39 : Ref sig .tc := ⟨.hbm, 74, rfl⟩
abbrev main_cst_4 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call2_v0 : Ref sig .tc := ⟨.hbm, 81, rfl⟩
abbrev main_call2_cst : Ref sig .tc := ⟨.hbm, 82, rfl⟩
abbrev main_call2_v1 : Ref sig .tc := ⟨.hbm, 83, rfl⟩
abbrev main_v45 : Ref sig .tc := ⟨.hbm, 84, rfl⟩
abbrev main_cst_5 : Ref sig .tc := ⟨.hbm, 85, rfl⟩
abbrev main_v46 : Ref sig .tc := ⟨.hbm, 86, rfl⟩
abbrev main_v47 : Ref sig .tc := ⟨.hbm, 87, rfl⟩
abbrev main_cst_6 : Ref sig .tc := ⟨.hbm, 88, rfl⟩
abbrev main_cst_7 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_8 : Ref sig .tc := ⟨.hbm, 103, rfl⟩
abbrev main_v56 : Ref sig .tc := ⟨.hbm, 104, rfl⟩
abbrev main_v57 : Ref sig .tc := ⟨.hbm, 105, rfl⟩
abbrev main_cst_9 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_10 : Ref sig .tc := ⟨.hbm, 110, rfl⟩
abbrev main_v61 : Ref sig .tc := ⟨.hbm, 111, rfl⟩
abbrev main_v62 : Ref sig .tc := ⟨.hbm, 112, rfl⟩
abbrev main_cst_11 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_12 : Ref sig .tc := ⟨.hbm, 117, rfl⟩
abbrev main_cst_13 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_cst_14 : Ref sig .tc := ⟨.hbm, 132, rfl⟩
abbrev main_v74 : Ref sig .tc := ⟨.hbm, 133, rfl⟩
abbrev main_v75 : Ref sig .tc := ⟨.hbm, 134, rfl⟩
abbrev main_cst_15 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst_16 : Ref sig .tc := ⟨.hbm, 139, rfl⟩
abbrev main_v79 : Ref sig .tc := ⟨.hbm, 140, rfl⟩
abbrev main_v80 : Ref sig .tc := ⟨.hbm, 141, rfl⟩
abbrev main_cst_17 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_cst_18 : Ref sig .tc := ⟨.hbm, 146, rfl⟩
abbrev main_cst_19 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_v84 : Ref sig .tc := ⟨.hbm, 153, rfl⟩
abbrev main_cst_20 : Ref sig .tc := ⟨.hbm, 154, rfl⟩
abbrev main_v85 : Ref sig .tc := ⟨.hbm, 155, rfl⟩
abbrev main_v86 : Ref sig .tc := ⟨.hbm, 156, rfl⟩
abbrev main_cst_21 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_cst_22 : Ref sig .tc := ⟨.hbm, 161, rfl⟩
abbrev main_cst_23 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_v90 : Ref sig .tc := ⟨.hbm, 168, rfl⟩
abbrev main_cst_24 : Ref sig .tc := ⟨.hbm, 169, rfl⟩
abbrev main_cst_25 : Ref sig .tc := ⟨.hbm, 170, rfl⟩
abbrev main_call7_v0 : Ref sig .tc := ⟨.hbm, 171, rfl⟩
abbrev main_call7_v1 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_v91 : Ref sig .tc := ⟨.hbm, 176, rfl⟩
abbrev main_cst_26 : Ref sig .tc := ⟨.hbm, 177, rfl⟩
abbrev main_v92 : Ref sig .tc := ⟨.hbm, 178, rfl⟩
abbrev main_v93 : Ref sig .tc := ⟨.hbm, 179, rfl⟩
abbrev main_cst_27 : Ref sig .tc := ⟨.hbm, 180, rfl⟩
abbrev main_v94 : Ref sig .tc := ⟨.hbm, 181, rfl⟩
abbrev main_cst_28 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_cst_29 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_cst_30 : Ref sig .tc := ⟨.hbm, 194, rfl⟩
abbrev main_v105 : Ref sig .tc := ⟨.hbm, 195, rfl⟩
abbrev main_v106 : Ref sig .tc := ⟨.hbm, 196, rfl⟩
abbrev main_cst_31 : Ref sig .tc := ⟨.hbm, 197, rfl⟩
abbrev main_v107 : Ref sig .tc := ⟨.hbm, 198, rfl⟩
abbrev main_v108 : Ref sig .tc := ⟨.hbm, 199, rfl⟩
abbrev main_cst_32 : Ref sig .tc := ⟨.hbm, 200, rfl⟩
abbrev main_v109 : Ref sig .tc := ⟨.hbm, 201, rfl⟩
abbrev main_v110 : Ref sig .tc := ⟨.hbm, 202, rfl⟩
abbrev main_cst_33 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_cst_34 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_cst_35 : Ref sig .tc := ⟨.hbm, 211, rfl⟩
abbrev main_v117 : Ref sig .tc := ⟨.hbm, 212, rfl⟩
abbrev main_v118 : Ref sig .tc := ⟨.hbm, 213, rfl⟩
abbrev main_cst_36 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_cst_37 : Ref sig .tc := ⟨.hbm, 218, rfl⟩
abbrev main_v122 : Ref sig .tc := ⟨.hbm, 219, rfl⟩
abbrev main_v123 : Ref sig .tc := ⟨.hbm, 220, rfl⟩
abbrev main_cst_38 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_cst_39 : Ref sig .tc := ⟨.hbm, 225, rfl⟩
abbrev main_v127 : Ref sig .tc := ⟨.hbm, 226, rfl⟩
abbrev main_v128 : Ref sig .tc := ⟨.hbm, 227, rfl⟩
abbrev main_cst_40 : Ref sig .tc := ⟨.hbm, 228, rfl⟩
abbrev main_v129 : Ref sig .tc := ⟨.hbm, 229, rfl⟩
abbrev main_cst_41 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_cst_42 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_values : Ref sig .tc := ⟨.hbm, 242, rfl⟩
abbrev main_indices : Ref sig .tc := ⟨.hbm, 243, rfl⟩
abbrev main_v140 : Ref sig .tc := ⟨.hbm, 244, rfl⟩
abbrev main_values_43 : Ref sig .tc := ⟨.hbm, 245, rfl⟩
abbrev main_indices_44 : Ref sig .tc := ⟨.hbm, 246, rfl⟩
abbrev main_v141 : Ref sig .tc := ⟨.hbm, 247, rfl⟩
abbrev main_v142 : Ref sig .tc := ⟨.hbm, 248, rfl⟩
abbrev main_call8_c : Ref sig .tc := ⟨.hbm, 249, rfl⟩
abbrev main_call8_v0 : Ref sig .tc := ⟨.hbm, 250, rfl⟩
abbrev main_call8_v1 : Ref sig .tc := ⟨.hbm, 251, rfl⟩
abbrev main_call8_c_0 : Ref sig .tc := ⟨.hbm, 252, rfl⟩
abbrev main_call8_v2 : Ref sig .tc := ⟨.hbm, 253, rfl⟩
abbrev main_call8_v3 : Ref sig .tc := ⟨.hbm, 254, rfl⟩
abbrev main_call8_v4 : Ref sig .tc := ⟨.hbm, 255, rfl⟩
abbrev main_call8_v5 : Ref sig .tc := ⟨.hbm, 256, rfl⟩
abbrev main_call8_c_1 : Ref sig .tc := ⟨.hbm, 257, rfl⟩
abbrev main_call8_c_2 : Ref sig .tc := ⟨.hbm, 258, rfl⟩
abbrev main_call8_v6 : Ref sig .tc := ⟨.hbm, 259, rfl⟩
abbrev main_call8_v7 : Ref sig .tc := ⟨.hbm, 260, rfl⟩
abbrev main_call8_v8 : Ref sig .tc := ⟨.hbm, 261, rfl⟩
abbrev main_call8_v9 : Ref sig .tc := ⟨.hbm, 262, rfl⟩
abbrev main_call8_v10 : Ref sig .tc := ⟨.hbm, 263, rfl⟩
abbrev main_call8_v11 : Ref sig .tc := ⟨.hbm, 264, rfl⟩
abbrev main_call8_c_3 : Ref sig .tc := ⟨.hbm, 265, rfl⟩
abbrev main_call8_v12 : Ref sig .tc := ⟨.hbm, 266, rfl⟩
abbrev main_call8_v13 : Ref sig .tc := ⟨.hbm, 267, rfl⟩
abbrev main_call8_cst : Ref sig .tc := ⟨.hbm, 268, rfl⟩
abbrev main_call8_v14 : Ref sig .tc := ⟨.hbm, 269, rfl⟩
abbrev main_v143 : Ref sig .tc := ⟨.hbm, 270, rfl⟩
abbrev main_v144 : Ref sig .tc := ⟨.hbm, 271, rfl⟩
abbrev main_call9_c : Ref sig .tc := ⟨.hbm, 272, rfl⟩
abbrev main_call9_v0 : Ref sig .tc := ⟨.hbm, 273, rfl⟩
abbrev main_call9_v1 : Ref sig .tc := ⟨.hbm, 274, rfl⟩
abbrev main_call9_c_0 : Ref sig .tc := ⟨.hbm, 275, rfl⟩
abbrev main_call9_v2 : Ref sig .tc := ⟨.hbm, 276, rfl⟩
abbrev main_call9_v3 : Ref sig .tc := ⟨.hbm, 277, rfl⟩
abbrev main_call9_v4 : Ref sig .tc := ⟨.hbm, 278, rfl⟩
abbrev main_call9_v5 : Ref sig .tc := ⟨.hbm, 279, rfl⟩
abbrev main_call9_c_1 : Ref sig .tc := ⟨.hbm, 280, rfl⟩
abbrev main_call9_c_2 : Ref sig .tc := ⟨.hbm, 281, rfl⟩
abbrev main_call9_v6 : Ref sig .tc := ⟨.hbm, 282, rfl⟩
abbrev main_call9_v7 : Ref sig .tc := ⟨.hbm, 283, rfl⟩
abbrev main_call9_v8 : Ref sig .tc := ⟨.hbm, 284, rfl⟩
abbrev main_call9_v9 : Ref sig .tc := ⟨.hbm, 285, rfl⟩
abbrev main_call9_v10 : Ref sig .tc := ⟨.hbm, 286, rfl⟩
abbrev main_call9_v11 : Ref sig .tc := ⟨.hbm, 287, rfl⟩
abbrev main_call9_c_3 : Ref sig .tc := ⟨.hbm, 288, rfl⟩
abbrev main_call9_v12 : Ref sig .tc := ⟨.hbm, 289, rfl⟩
abbrev main_call9_v13 : Ref sig .tc := ⟨.hbm, 290, rfl⟩
abbrev main_call9_cst : Ref sig .tc := ⟨.hbm, 291, rfl⟩
abbrev main_call9_v14 : Ref sig .tc := ⟨.hbm, 292, rfl⟩
abbrev main_v145 : Ref sig .tc := ⟨.hbm, 293, rfl⟩
abbrev main_v146 : Ref sig .tc := ⟨.hbm, 294, rfl⟩
abbrev main_call10_c : Ref sig .tc := ⟨.hbm, 295, rfl⟩
abbrev main_call10_v0 : Ref sig .tc := ⟨.hbm, 296, rfl⟩
abbrev main_call10_v1 : Ref sig .tc := ⟨.hbm, 297, rfl⟩
abbrev main_call10_c_0 : Ref sig .tc := ⟨.hbm, 298, rfl⟩
abbrev main_call10_v2 : Ref sig .tc := ⟨.hbm, 299, rfl⟩
abbrev main_call10_v3 : Ref sig .tc := ⟨.hbm, 300, rfl⟩
abbrev main_call10_v4 : Ref sig .tc := ⟨.hbm, 301, rfl⟩
abbrev main_call10_v5 : Ref sig .tc := ⟨.hbm, 302, rfl⟩
abbrev main_call10_c_1 : Ref sig .tc := ⟨.hbm, 303, rfl⟩
abbrev main_call10_c_2 : Ref sig .tc := ⟨.hbm, 304, rfl⟩
abbrev main_call10_v6 : Ref sig .tc := ⟨.hbm, 305, rfl⟩
abbrev main_call10_v7 : Ref sig .tc := ⟨.hbm, 306, rfl⟩
abbrev main_call10_v8 : Ref sig .tc := ⟨.hbm, 307, rfl⟩
abbrev main_call10_v9 : Ref sig .tc := ⟨.hbm, 308, rfl⟩
abbrev main_call10_v10 : Ref sig .tc := ⟨.hbm, 309, rfl⟩
abbrev main_call10_v11 : Ref sig .tc := ⟨.hbm, 310, rfl⟩
abbrev main_call10_c_3 : Ref sig .tc := ⟨.hbm, 311, rfl⟩
abbrev main_call10_v12 : Ref sig .tc := ⟨.hbm, 312, rfl⟩
abbrev main_call10_v13 : Ref sig .tc := ⟨.hbm, 313, rfl⟩
abbrev main_call10_cst : Ref sig .tc := ⟨.hbm, 314, rfl⟩
abbrev main_call10_v14 : Ref sig .tc := ⟨.hbm, 315, rfl⟩
abbrev main_v147 : Ref sig .tc := ⟨.hbm, 316, rfl⟩
abbrev main_v148 : Ref sig .tc := ⟨.hbm, 317, rfl⟩
abbrev main_call11_c : Ref sig .tc := ⟨.hbm, 318, rfl⟩
abbrev main_call11_v0 : Ref sig .tc := ⟨.hbm, 319, rfl⟩
abbrev main_call11_v1 : Ref sig .tc := ⟨.hbm, 320, rfl⟩
abbrev main_call11_c_0 : Ref sig .tc := ⟨.hbm, 321, rfl⟩
abbrev main_call11_v2 : Ref sig .tc := ⟨.hbm, 322, rfl⟩
abbrev main_call11_v3 : Ref sig .tc := ⟨.hbm, 323, rfl⟩
abbrev main_call11_v4 : Ref sig .tc := ⟨.hbm, 324, rfl⟩
abbrev main_call11_v5 : Ref sig .tc := ⟨.hbm, 325, rfl⟩
abbrev main_call11_c_1 : Ref sig .tc := ⟨.hbm, 326, rfl⟩
abbrev main_call11_c_2 : Ref sig .tc := ⟨.hbm, 327, rfl⟩
abbrev main_call11_v6 : Ref sig .tc := ⟨.hbm, 328, rfl⟩
abbrev main_call11_v7 : Ref sig .tc := ⟨.hbm, 329, rfl⟩
abbrev main_call11_v8 : Ref sig .tc := ⟨.hbm, 330, rfl⟩
abbrev main_call11_v9 : Ref sig .tc := ⟨.hbm, 331, rfl⟩
abbrev main_call11_v10 : Ref sig .tc := ⟨.hbm, 332, rfl⟩
abbrev main_call11_v11 : Ref sig .tc := ⟨.hbm, 333, rfl⟩
abbrev main_call11_c_3 : Ref sig .tc := ⟨.hbm, 334, rfl⟩
abbrev main_call11_v12 : Ref sig .tc := ⟨.hbm, 335, rfl⟩
abbrev main_call11_v13 : Ref sig .tc := ⟨.hbm, 336, rfl⟩
abbrev main_call11_cst : Ref sig .tc := ⟨.hbm, 337, rfl⟩
abbrev main_call11_v14 : Ref sig .tc := ⟨.hbm, 338, rfl⟩
abbrev main_v149 : Ref sig .tc := ⟨.hbm, 339, rfl⟩
abbrev main_v150 : Ref sig .tc := ⟨.hbm, 340, rfl⟩
abbrev main_v151 : Ref sig .tc := ⟨.hbm, 341, rfl⟩
abbrev main_v152 : Ref sig .tc := ⟨.hbm, 342, rfl⟩
abbrev main_v153 : Ref sig .tc := ⟨.hbm, 343, rfl⟩
abbrev main_v154 : Ref sig .tc := ⟨.hbm, 344, rfl⟩
abbrev main_cst_45 : Ref sig .tc := ⟨.hbm, 345, rfl⟩
abbrev main_v155 : Ref sig .tc := ⟨.hbm, 346, rfl⟩
abbrev main_v156 : Ref sig .tc := ⟨.hbm, 347, rfl⟩
abbrev main_v157 : Ref sig .tc := ⟨.hbm, 348, rfl⟩
abbrev main_cst_46 : Ref sig .tc := ⟨.hbm, 349, rfl⟩
abbrev main_v158 : Ref sig .tc := ⟨.hbm, 350, rfl⟩
abbrev main_v159 : Ref sig .tc := ⟨.hbm, 351, rfl⟩
abbrev main_cst_47 : Ref sig .tc := ⟨.hbm, 352, rfl⟩
abbrev main_v160 : Ref sig .tc := ⟨.hbm, 353, rfl⟩
abbrev main_v161 : Ref sig .tc := ⟨.hbm, 354, rfl⟩
abbrev main_v162 : Ref sig .tc := ⟨.hbm, 355, rfl⟩
abbrev main_cst_48 : Ref sig .tc := ⟨.hbm, 356, rfl⟩
abbrev main_v163 : Ref sig .tc := ⟨.hbm, 357, rfl⟩
abbrev main_v164 : Ref sig .tc := ⟨.hbm, 358, rfl⟩
abbrev main_cst_49 : Ref sig .tc := ⟨.hbm, 359, rfl⟩
abbrev main_v165 : Ref sig .tc := ⟨.hbm, 360, rfl⟩
abbrev main_v166 : Ref sig .tc := ⟨.hbm, 361, rfl⟩
abbrev main_v167 : Ref sig .tc := ⟨.hbm, 362, rfl⟩
abbrev main_cst_50 : Ref sig .tc := ⟨.hbm, 363, rfl⟩
abbrev main_v168 : Ref sig .tc := ⟨.hbm, 364, rfl⟩
abbrev main_v169 : Ref sig .tc := ⟨.hbm, 365, rfl⟩
abbrev main_v170 : Ref sig .tc := ⟨.hbm, 366, rfl⟩
abbrev main_v171 : Ref sig .tc := ⟨.hbm, 367, rfl⟩
abbrev main_v172 : Ref sig .tc := ⟨.hbm, 368, rfl⟩
abbrev main_cst_51 : Ref sig .tc := ⟨.hbm, 369, rfl⟩
abbrev main_v173 : Ref sig .tc := ⟨.hbm, 370, rfl⟩
abbrev main_v174 : Ref sig .tc := ⟨.hbm, 371, rfl⟩
abbrev main_cst_52 : Ref sig .tc := ⟨.hbm, 372, rfl⟩
abbrev main_v175 : Ref sig .tc := ⟨.hbm, 373, rfl⟩
abbrev main_v176 : Ref sig .tc := ⟨.hbm, 374, rfl⟩
abbrev main_cst_53 : Ref sig .tc := ⟨.hbm, 375, rfl⟩
abbrev main_v177 : Ref sig .tc := ⟨.hbm, 376, rfl⟩
abbrev main_v178 : Ref sig .tc := ⟨.hbm, 377, rfl⟩
abbrev main_cst_54 : Ref sig .tc := ⟨.hbm, 378, rfl⟩
abbrev main_v179 : Ref sig .tc := ⟨.hbm, 379, rfl⟩
abbrev main_v180 : Ref sig .tc := ⟨.hbm, 380, rfl⟩
abbrev main_v181 : Ref sig .tc := ⟨.hbm, 381, rfl⟩
abbrev main_v182 : Ref sig .tc := ⟨.hbm, 382, rfl⟩
abbrev main_v183 : Ref sig .tc := ⟨.hbm, 383, rfl⟩
abbrev main_cst_55 : Ref sig .tc := ⟨.hbm, 384, rfl⟩
abbrev main_v184 : Ref sig .tc := ⟨.hbm, 385, rfl⟩
abbrev main_v185 : Ref sig .tc := ⟨.hbm, 386, rfl⟩
abbrev main_v186 : Ref sig .tc := ⟨.hbm, 387, rfl⟩
abbrev main_v187 : Ref sig .tc := ⟨.hbm, 388, rfl⟩
abbrev main_call13_v0 : Ref sig .tc := ⟨.hbm, 389, rfl⟩
abbrev main_call13_v1 : Ref sig .tc := ⟨.hbm, 390, rfl⟩
abbrev main_call13_v2 : Ref sig .tc := ⟨.hbm, 391, rfl⟩
abbrev main_call13_v3 : Ref sig .tc := ⟨.hbm, 392, rfl⟩
abbrev main_call13_v4 : Ref sig .tc := ⟨.hbm, 393, rfl⟩
abbrev main_v188 : Ref sig .tc := ⟨.hbm, 394, rfl⟩
abbrev main_v189 : Ref sig .tc := ⟨.hbm, 395, rfl⟩
abbrev main_v190 : Ref sig .tc := ⟨.hbm, 396, rfl⟩
abbrev main_v191 : Ref sig .tc := ⟨.hbm, 397, rfl⟩
abbrev main_v192 : Ref sig .tc := ⟨.hbm, 398, rfl⟩
abbrev main_v193 : Ref sig .tc := ⟨.hbm, 399, rfl⟩
abbrev main_cst_56 : Ref sig .tc := ⟨.hbm, 400, rfl⟩
abbrev main_v194 : Ref sig .tc := ⟨.hbm, 401, rfl⟩
abbrev main_v195 : Ref sig .tc := ⟨.hbm, 402, rfl⟩
abbrev main_v196 : Ref sig .tc := ⟨.hbm, 403, rfl⟩
abbrev main_v197 : Ref sig .tc := ⟨.hbm, 404, rfl⟩
abbrev main_v198 : Ref sig .tc := ⟨.hbm, 405, rfl⟩
abbrev main_cst_57 : Ref sig .tc := ⟨.hbm, 406, rfl⟩
abbrev main_v199 : Ref sig .tc := ⟨.hbm, 407, rfl⟩
abbrev main_v200 : Ref sig .tc := ⟨.hbm, 408, rfl⟩
abbrev main_cst_58 : Ref sig .tc := ⟨.hbm, 409, rfl⟩
abbrev main_v201 : Ref sig .tc := ⟨.hbm, 410, rfl⟩
abbrev main_v202 : Ref sig .tc := ⟨.hbm, 411, rfl⟩
abbrev main_cst_59 : Ref sig .tc := ⟨.hbm, 412, rfl⟩
abbrev main_v203 : Ref sig .tc := ⟨.hbm, 413, rfl⟩
abbrev main_v204 : Ref sig .tc := ⟨.hbm, 414, rfl⟩
abbrev main_cst_60 : Ref sig .tc := ⟨.hbm, 415, rfl⟩
abbrev main_cst_61 : Ref sig .tc := ⟨.hbm, 416, rfl⟩
abbrev main_call14_v0 : Ref sig .tc := ⟨.hbm, 417, rfl⟩
abbrev main_call14_v1 : Ref sig .tc := ⟨.hbm, 418, rfl⟩
abbrev main_call14_v2 : Ref sig .tc := ⟨.hbm, 419, rfl⟩
abbrev main_call14_v3 : Ref sig .tc := ⟨.hbm, 420, rfl⟩
abbrev main_call14_v4 : Ref sig .tc := ⟨.hbm, 421, rfl⟩
abbrev main_v205 : Ref sig .tc := ⟨.hbm, 422, rfl⟩
abbrev main_cst_62 : Ref sig .tc := ⟨.hbm, 423, rfl⟩
abbrev main_v206 : Ref sig .tc := ⟨.hbm, 424, rfl⟩
abbrev main_v207 : Ref sig .tc := ⟨.hbm, 425, rfl⟩
abbrev main_cst_63 : Ref sig .tc := ⟨.hbm, 426, rfl⟩
abbrev main_v208 : Ref sig .tc := ⟨.hbm, 427, rfl⟩
abbrev main_v209 : Ref sig .tc := ⟨.hbm, 428, rfl⟩
abbrev main_v210 : Ref sig .tc := ⟨.hbm, 429, rfl⟩
abbrev main_v211 : Ref sig .tc := ⟨.hbm, 430, rfl⟩
abbrev main_cst_64 : Ref sig .tc := ⟨.hbm, 431, rfl⟩
abbrev main_v212 : Ref sig .tc := ⟨.hbm, 432, rfl⟩
abbrev main_v213 : Ref sig .tc := ⟨.hbm, 433, rfl⟩
abbrev main_v214 : Ref sig .tc := ⟨.hbm, 434, rfl⟩
abbrev main_cst_65 : Ref sig .tc := ⟨.hbm, 435, rfl⟩
abbrev main_v215 : Ref sig .tc := ⟨.hbm, 436, rfl⟩
abbrev main_v216 : Ref sig .tc := ⟨.hbm, 437, rfl⟩
abbrev main_v217 : Ref sig .tc := ⟨.hbm, 438, rfl⟩
abbrev main_v218 : Ref sig .tc := ⟨.hbm, 439, rfl⟩
abbrev main_v219 : Ref sig .tc := ⟨.hbm, 440, rfl⟩
abbrev main_cst_66 : Ref sig .tc := ⟨.hbm, 441, rfl⟩
abbrev main_v220 : Ref sig .tc := ⟨.hbm, 442, rfl⟩
abbrev main_v221 : Ref sig .tc := ⟨.hbm, 443, rfl⟩
abbrev main_cst_67 : Ref sig .tc := ⟨.hbm, 444, rfl⟩
abbrev main_v222 : Ref sig .tc := ⟨.hbm, 445, rfl⟩
abbrev main_v223 : Ref sig .tc := ⟨.hbm, 446, rfl⟩
abbrev main_cst_68 : Ref sig .tc := ⟨.hbm, 447, rfl⟩
abbrev main_v224 : Ref sig .tc := ⟨.hbm, 448, rfl⟩
abbrev main_v225 : Ref sig .tc := ⟨.hbm, 449, rfl⟩
abbrev main_cst_69 : Ref sig .tc := ⟨.hbm, 450, rfl⟩
abbrev main_v226 : Ref sig .tc := ⟨.hbm, 451, rfl⟩
abbrev main_v227 : Ref sig .tc := ⟨.hbm, 452, rfl⟩
abbrev main_v228 : Ref sig .tc := ⟨.hbm, 453, rfl⟩
abbrev main_v229 : Ref sig .tc := ⟨.hbm, 454, rfl⟩
abbrev main_v230 : Ref sig .tc := ⟨.hbm, 455, rfl⟩
abbrev main_cst_70 : Ref sig .tc := ⟨.hbm, 456, rfl⟩
abbrev main_v231 : Ref sig .tc := ⟨.hbm, 457, rfl⟩
abbrev main_v232 : Ref sig .tc := ⟨.hbm, 458, rfl⟩
abbrev main_cst_71 : Ref sig .tc := ⟨.hbm, 459, rfl⟩
abbrev main_v233 : Ref sig .tc := ⟨.hbm, 460, rfl⟩
abbrev main_v234 : Ref sig .tc := ⟨.hbm, 461, rfl⟩
abbrev main_cst_72 : Ref sig .tc := ⟨.hbm, 462, rfl⟩
abbrev main_v235 : Ref sig .tc := ⟨.hbm, 463, rfl⟩
abbrev main_v236 : Ref sig .tc := ⟨.hbm, 464, rfl⟩
abbrev main_cst_73 : Ref sig .tc := ⟨.hbm, 465, rfl⟩
abbrev main_v237 : Ref sig .tc := ⟨.hbm, 466, rfl⟩
abbrev main_v238 : Ref sig .tc := ⟨.hbm, 467, rfl⟩
abbrev main_v239 : Ref sig .tc := ⟨.hbm, 468, rfl⟩
abbrev main_v240 : Ref sig .tc := ⟨.hbm, 469, rfl⟩
abbrev main_v241 : Ref sig .tc := ⟨.hbm, 470, rfl⟩
abbrev main_v242 : Ref sig .tc := ⟨.hbm, 471, rfl⟩
abbrev main_v243 : Ref sig .tc := ⟨.hbm, 472, rfl⟩
abbrev main_v244 : Ref sig .tc := ⟨.hbm, 473, rfl⟩
abbrev main_v245 : Ref sig .tc := ⟨.hbm, 474, rfl⟩
abbrev main_v246 : Ref sig .tc := ⟨.hbm, 475, rfl⟩
abbrev main_v247 : Ref sig .tc := ⟨.hbm, 476, rfl⟩
abbrev main_v248 : Ref sig .tc := ⟨.hbm, 477, rfl⟩
abbrev main_v249 : Ref sig .tc := ⟨.hbm, 478, rfl⟩
abbrev main_v250 : Ref sig .tc := ⟨.hbm, 479, rfl⟩
abbrev main_v251 : Ref sig .tc := ⟨.hbm, 480, rfl⟩
abbrev main_v252 : Ref sig .tc := ⟨.hbm, 481, rfl⟩
abbrev main_v253 : Ref sig .tc := ⟨.hbm, 482, rfl⟩
abbrev main_v254 : Ref sig .tc := ⟨.hbm, 483, rfl⟩
abbrev main_v255 : Ref sig .tc := ⟨.hbm, 484, rfl⟩
abbrev main_v256 : Ref sig .tc := ⟨.hbm, 485, rfl⟩
abbrev main_cst_74 : Ref sig .tc := ⟨.hbm, 486, rfl⟩
abbrev main_v257 : Ref sig .tc := ⟨.hbm, 487, rfl⟩
abbrev main_v258 : Ref sig .tc := ⟨.hbm, 488, rfl⟩
abbrev main_cst_75 : Ref sig .tc := ⟨.hbm, 489, rfl⟩
abbrev main_v259 : Ref sig .tc := ⟨.hbm, 490, rfl⟩
abbrev main_v260 : Ref sig .tc := ⟨.hbm, 491, rfl⟩
abbrev main_v261 : Ref sig .tc := ⟨.hbm, 492, rfl⟩
abbrev main_v262 : Ref sig .tc := ⟨.hbm, 493, rfl⟩
abbrev main_cst_76 : Ref sig .tc := ⟨.hbm, 494, rfl⟩
abbrev main_v263 : Ref sig .tc := ⟨.hbm, 495, rfl⟩
abbrev main_v264 : Ref sig .tc := ⟨.hbm, 496, rfl⟩
abbrev main_v265 : Ref sig .tc := ⟨.hbm, 497, rfl⟩
abbrev main_cst_77 : Ref sig .tc := ⟨.hbm, 498, rfl⟩
abbrev main_cst_78 : Ref sig .tc := ⟨.hbm, 499, rfl⟩
abbrev main_call17_v0 : Ref sig .tc := ⟨.hbm, 500, rfl⟩
abbrev main_call17_v1 : Ref sig .tc := ⟨.hbm, 501, rfl⟩
abbrev main_call17_v2 : Ref sig .tc := ⟨.hbm, 502, rfl⟩
abbrev main_call17_v3 : Ref sig .tc := ⟨.hbm, 503, rfl⟩
abbrev main_call17_v4 : Ref sig .tc := ⟨.hbm, 504, rfl⟩
abbrev main_v266 : Ref sig .tc := ⟨.hbm, 505, rfl⟩
abbrev main_v267 : Ref sig .tc := ⟨.hbm, 506, rfl⟩
abbrev main_v268 : Ref sig .tc := ⟨.hbm, 507, rfl⟩
abbrev main_v269 : Ref sig .tc := ⟨.hbm, 508, rfl⟩
abbrev main_cst_79 : Ref sig .tc := ⟨.hbm, 509, rfl⟩
abbrev main_v270 : Ref sig .tc := ⟨.hbm, 510, rfl⟩
abbrev main_cst_80 : Ref sig .tc := ⟨.hbm, 511, rfl⟩
abbrev main_v271 : Ref sig .tc := ⟨.hbm, 512, rfl⟩
abbrev main_v272 : Ref sig .tc := ⟨.hbm, 513, rfl⟩
abbrev main_cst_81 : Ref sig .tc := ⟨.hbm, 514, rfl⟩
abbrev main_v273 : Ref sig .tc := ⟨.hbm, 515, rfl⟩
abbrev main_cst_82 : Ref sig .tc := ⟨.hbm, 516, rfl⟩
abbrev main_v274 : Ref sig .tc := ⟨.hbm, 517, rfl⟩
abbrev main_v275 : Ref sig .tc := ⟨.hbm, 518, rfl⟩
abbrev main_v276 : Ref sig .tc := ⟨.hbm, 519, rfl⟩

abbrev nD : Nat := 1
abbrev τ : Topo := Topo.v7x

variable {F : FTy → Type} [FloatOps F]
-- ==== Proof.Frames.lean ====
/- The frame claims of the two kernels and of the reference. Hand-written, untrusted. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Proof

open Idealize.ShloMosaic Idealize.SL.Sem

/-- The kernel leaves its arguments unchanged and every semaphore at zero. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference: its run, read at the arguments; it declares no semaphore. -/
theorem frame_referenceIdeal : Cert.quiescent_ReferenceIdeal := fun m ρ _ =>
  (θ_run Cert.ReferenceIdeal.defs _ _).mono (fun r h =>
      ⟨fun c => (h c).2.2.2.2.2.2.2.2.2.2, Idealize.ShloMosaic.sem_eq_zero_of_no_sems (by decide) r.2⟩)
    (Cert.ReferenceIdeal.Value.run (F := Ideal) m ρ)

end Cert.Proof

end
-- ==== Proof.Spec.lean ====
/- One batch row of the slot memory's write step, as functions over the extended reals: what both programs are shown to
   compute, row by row. Hand-written, untrusted. -/
module

public import Idealize.ShloMosaic.PureOps.Ideal
public import Idealize.ShloMosaic.PureOps.Ideal.Laws

@[expose] public section

noncomputable section

namespace Cert.Proof

open Idealize.ShloMosaic

/-- The extended real a 32-bit float literal denotes. -/
abbrev lit (w : BitVec 32) : EReal := Ideal.ofBits .f32 w

/-- The first index at which `f` is greatest. -/
def first (f : Fin 256 → EReal) : Fin 256 :=
  (Finset.univ.filter fun j => ∀ k, f k ≤ f j).min' (by
    obtain ⟨j, -, hj⟩ := Finset.exists_max_image (Finset.univ : Finset (Fin 256)) f Finset.univ_nonempty
    exact ⟨j, Finset.mem_filter.2 ⟨Finset.mem_univ _, fun k => hj k (Finset.mem_univ _)⟩⟩)

/-- What one batch row of the step reads: the row's hidden vector, keys, values, protection, usage and age of its 256
    slots, and the weights that every row shares. -/
structure Row where
  h : Fin 128 → EReal
  wk : Fin 256 → Fin 128 → EReal
  wv : Fin 256 → Fin 128 → EReal
  pr : Fin 256 → EReal
  us : Fin 256 → EReal
  ag : Fin 256 → EReal
  Wk : Fin 128 → Fin 128 → EReal
  bk : Fin 128 → EReal
  Wv : Fin 128 → Fin 128 → EReal
  bv : Fin 128 → EReal
  wwg : Fin 128 → EReal
  bwg : EReal
  wmg : Fin 128 → EReal
  bmg : EReal
  wbg : Fin 128 → EReal
  bbg : EReal
  wig : Fin 128 → EReal
  big : EReal
  wso : Fin 128 → EReal
  bso : EReal
  wsp : Fin 128 → EReal
  bsp : EReal

/-- `x` cut to the interval from 0 to 1. -/
def clip (x : EReal) : EReal := min 1 (max 0 x)

/-- A vector's euclidean length, at least 1e-6. -/
def len (x : Fin 128 → EReal) : EReal := max (Ideal.sqrt (∑ k, x k * x k)) (lit 0x358637BD#32)

/-- A linear layer's one output: the inner product of `x` and `w`, plus `b`. -/
def lin (x w : Fin 128 → EReal) (b : EReal) : EReal := (∑ k, x k * w k) + b

namespace Row
variable (R : Row)

/-- The candidate key. -/
def ck (d : Fin 128) : EReal := Ideal.tanh (lin R.h (R.Wk d) (R.bk d))
/-- The candidate value. -/
def cv (d : Fin 128) : EReal := Ideal.tanh (lin R.h (R.Wv d) (R.bv d))
/-- The write strength. -/
def ws : EReal := Ideal.logistic (lin R.h R.wwg R.bwg)
/-- The importance. -/
def im : EReal := Ideal.logistic (lin R.h R.wig R.big)
/-- The candidate key at unit length. -/
def nc (d : Fin 128) : EReal := Ideal.div (R.ck d) (len R.ck)
/-- Slot `n`'s key at unit length. -/
def nk (n : Fin 256) (d : Fin 128) : EReal := Ideal.div (R.wk n d) (len (R.wk n))
/-- The cosine similarity of the candidate key and slot `n`'s key. -/
def sim (n : Fin 256) : EReal := ∑ d, R.nc d * R.nk n d
/-- Slot `n`'s occupancy by the length of its value. -/
def nocc (n : Fin 256) : EReal := clip (Ideal.div (Ideal.sqrt (∑ k, R.wv n k * R.wv n k)) (lit 0x413504F3#32))
/-- Slot `n`'s occupancy. -/
def occ (n : Fin 256) : EReal :=
  clip (lit 0x3F000000#32 * Ideal.logistic (lin (R.wv n) R.wso R.bso) + lit 0x3F000000#32 * R.nocc n)
/-- Slot `n`'s effective protection. -/
def ep (n : Fin 256) : EReal :=
  clip (lit 0x3ECCCCCD#32 * Ideal.logistic (lin (R.wv n) R.wsp R.bsp) + lit 0x3F19999A#32 * R.pr n)
/-- Slot `n`'s effective usage. -/
def eu (n : Fin 256) : EReal := clip (lit 0x3F000000#32 * R.occ n + lit 0x3F000000#32 * R.us n)
/-- Slot `n`'s effective age. -/
def ea (n : Fin 256) : EReal := clip (R.ag n)
/-- Slot `n`'s score for being replaced. -/
def rs (n : Fin 256) : EReal :=
  lit 0x3F933333#32 * (1 - R.occ n) + lit 0x3F59999A#32 * (1 - R.ep n)
    + lit 0x3F266666#32 * R.ea n + lit 0x3EE66666#32 * (1 - R.eu n)
    + lit 0x3E800000#32 * (1 - R.sim n)
/-- The similarities over the temperature. -/
def simT (n : Fin 256) : EReal := Ideal.div (R.sim n) (lit 0x3F000000#32)
/-- The replacement scores over the temperature. -/
def rsT (n : Fin 256) : EReal := Ideal.div (R.rs n) (lit 0x3F000000#32)
/-- The slot to merge into: the first one of greatest similarity. -/
def mi : Fin 256 := first R.simT
/-- The slot to replace: the first one of greatest score. -/
def ri : Fin 256 := first R.rsT
/-- The merge preference. -/
def mp : EReal :=
  Ideal.logistic (lin R.h R.wmg R.bmg + lit 0x4019999A#32 * R.sim R.mi
    + lit 0x3FCCCCCD#32 * (R.occ R.mi - lit 0x3F000000#32)
    + (R.eu R.mi - lit 0x3F000000#32) - lit 0x3F4CCCCD#32 * R.ea R.mi)
/-- Whether the row merges (1) or replaces (0). -/
def um : BitVec 1 :=
  Ideal.cmp .oge R.mp (lit 0x3F000000#32)
    &&& (Ideal.cmp .ogt (R.sim R.mi) (lit 0x3F0CCCCD#32) &&& Ideal.cmp .ogt (R.occ R.mi) (lit 0x3EB33333#32))
/-- The slot written. -/
def ti : Fin 256 := if R.um = 1#1 then R.mi else R.ri
/-- One at the slot written, zero elsewhere. -/
def oh (n : Fin 256) : EReal := if n = R.ti then 1 else 0
/-- The binding strength. -/
def bs : EReal := Ideal.logistic (lin R.h R.wbg R.bbg + lit 0x400CCCCD#32 * R.sim R.mi)
/-- Slot `n`'s conflict with the candidate. -/
def cf (n : Fin 256) : EReal := clip (1 - R.sim n)
/-- The mass written into slot `n`. -/
def ow (n : Fin 256) : EReal :=
  (lit 0x3E19999A#32 + lit 0x3F59999A#32 * R.ws) * R.oh n
    * (1 - lit 0x3F266666#32 * R.ep n * R.cf n)
/-- How much of the key is written. -/
def km : EReal :=
  if R.um = 1#1 then lit 0x3E6147AE#32 + lit 0x3EC28F5C#32 * R.bs else lit 0x3F47AE14#32 + lit 0x3E3851EC#32 * R.bs
/-- How much of the value is written. -/
def vm : EReal :=
  if R.um = 1#1 then lit 0x3EE66666#32 + lit 0x3EB33333#32 * R.im else lit 0x3F400000#32 + lit 0x3E4CCCCD#32 * R.im
/-- Slot `n`'s key after the step. -/
def uk (n : Fin 256) (d : Fin 128) : EReal := R.wk n d + R.ow n * R.km * (R.ck d - R.wk n d)
/-- Slot `n`'s value after the step. -/
def uv (n : Fin 256) (d : Fin 128) : EReal := R.wv n d + R.ow n * R.vm * (R.cv d - R.wv n d)
/-- Slot `n`'s protection after the step. -/
def up (n : Fin 256) : EReal :=
  clip (R.pr n * lit 0x3F733333#32 + R.ow n * (lit 0x3F000000#32 + lit 0x3F000000#32 * R.im))
/-- The mean over the slots. -/
def mean (f : Fin 256 → EReal) : EReal := Ideal.div (∑ n, f n) (lit 0x43800000#32)

end Row

end Cert.Proof

end
-- ==== Proof.Args.lean ====
/- The 22 argument arrays, and one batch row of them. Hand-written, untrusted. -/
module

public import proofs.«01_k».proof.Proof.Spec
public import Idealize.ShloMosaic.Lib.Pointwise.Index

@[expose] public section

noncomputable section

namespace Cert.Proof

open Idealize.ShloMosaic

/-- An array of extended reals of a shape. -/
abbrev Arr (s : Shape) : Type := (⟨s, .f32⟩ : BufTy).Contents (Elt Ideal)

/-- The arguments of both programs: hidden vectors, keys, values, protection, usage, age, then each layer's weights and
    bias. -/
structure Args where
  x0 : Arr ⟨2, ![1024, 128]⟩
  x1 : Arr ⟨3, ![1024, 256, 128]⟩
  x2 : Arr ⟨3, ![1024, 256, 128]⟩
  x3 : Arr ⟨2, ![1024, 256]⟩
  x4 : Arr ⟨2, ![1024, 256]⟩
  x5 : Arr ⟨2, ![1024, 256]⟩
  x6 : Arr ⟨2, ![128, 128]⟩
  x7 : Arr ⟨1, ![128]⟩
  x8 : Arr ⟨2, ![128, 128]⟩
  x9 : Arr ⟨1, ![128]⟩
  x10 : Arr ⟨2, ![1, 128]⟩
  x11 : Arr ⟨1, ![1]⟩
  x12 : Arr ⟨2, ![1, 128]⟩
  x13 : Arr ⟨1, ![1]⟩
  x14 : Arr ⟨2, ![1, 128]⟩
  x15 : Arr ⟨1, ![1]⟩
  x16 : Arr ⟨2, ![1, 128]⟩
  x17 : Arr ⟨1, ![1]⟩
  x18 : Arr ⟨2, ![1, 128]⟩
  x19 : Arr ⟨1, ![1]⟩
  x20 : Arr ⟨2, ![1, 128]⟩
  x21 : Arr ⟨1, ![1]⟩

/-- Batch row `b` of the arguments. -/
def Args.row (A : Args) (b : Fin 1024) : Row where
  h k := A.x0 (ix2 b k)
  wk n d := A.x1 (ix3 b n d)
  wv n d := A.x2 (ix3 b n d)
  pr n := A.x3 (ix2 b n)
  us n := A.x4 (ix2 b n)
  ag n := A.x5 (ix2 b n)
  Wk d k := A.x6 (ix2 d k)
  bk d := A.x7 (ix1 d)
  Wv d k := A.x8 (ix2 d k)
  bv d := A.x9 (ix1 d)
  wwg k := A.x10 (ix2 0 k)
  bwg := A.x11 (ix1 0)
  wmg k := A.x12 (ix2 0 k)
  bmg := A.x13 (ix1 0)
  wbg k := A.x14 (ix2 0 k)
  bbg := A.x15 (ix1 0)
  wig k := A.x16 (ix2 0 k)
  big := A.x17 (ix1 0)
  wso k := A.x18 (ix2 0 k)
  bso := A.x19 (ix1 0)
  wsp k := A.x20 (ix2 0 k)
  bsp := A.x21 (ix1 0)

end Cert.Proof

end
-- ==== Proof.Arg.lean ====
/- The first index of greatest value: what the kernel's and the reference's arg-max of a softmax come to. Hand-written,
   untrusted. -/
module

public import proofs.«01_k».proof.Proof.Spec
public import Idealize.ShloMosaic.Lib.IdealHost
public import Idealize.ShloMosaic.Lib.SortFacts
public import Mathlib.Data.Finset.Fold
public import Mathlib.Analysis.SpecialFunctions.Exp

@[expose] public section

noncomputable section

namespace Cert.Proof

open Idealize.ShloMosaic

/-! ## Literals -/

/-- A normal float literal with its sign bit clear is a positive real. -/
theorem lit_pos (w : BitVec 32) (hs : w.extractLsb' 31 1 = 0#1) (h0 : (w.extractLsb' 23 8).toNat ≠ 0)
    (h1 : (w.extractLsb' 23 8).toNat ≠ 255) : ∃ y : ℝ, 0 < y ∧ lit w = (y : EReal) := by
  refine ⟨1 * (2 ^ 23 + (w.extractLsb' 0 23).toNat : Nat) * (2 : ℝ) ^ (((w.extractLsb' 23 8).toNat : Int) - (2 ^ (8 - 1) - 1) - 23),
    by positivity, ?_⟩
  have hn : (0#1 == 1#1) = false := rfl
  have h1' : (w.extractLsb' 23 8).toNat ≠ 2 ^ 8 - 1 := h1
  simp only [lit, Ideal.ofBits, Ideal.ieee]
  rw [if_neg h1', if_neg h0, hs, hn]
  simp

/-- The all-ones exponent with a negative sign is the least extended real. -/
theorem lit_bot : lit 0xFF800000#32 = ⊥ := by
  simp [lit, Ideal.ofBits, Ideal.ieee]

/-! ## The first index of greatest value -/

/-- An index that no value exceeds, and that no earlier index ties, is `first`. -/
theorem first_eq {f : Fin 256 → EReal} {h : Fin 256} (hm : ∀ k, f k ≤ f h ∧ (f k = f h → h ≤ k)) : first f = h := by
  unfold first
  refine le_antisymm (Finset.min'_le _ _ (Finset.mem_filter.2 ⟨Finset.mem_univ _, fun k => (hm k).1⟩)) ?_
  refine Finset.le_min' _ _ _ fun k hk => (hm k).2 ?_
  exact le_antisymm (hm k).1 ((Finset.mem_filter.1 hk).2 h)

/-- `first f` holds a greatest value. -/
theorem le_first (f : Fin 256 → EReal) (k : Fin 256) : f k ≤ f (first f) :=
  (Finset.mem_filter.1 (Finset.min'_mem (Finset.univ.filter fun j => ∀ k, f k ≤ f j) _)).2 k

/-- `first f` is at most every index that holds a greatest value. -/
theorem first_le {f : Fin 256 → EReal} {j : Fin 256} (h : ∀ k, f k ≤ f j) : first f ≤ j :=
  Finset.min'_le _ _ (Finset.mem_filter.2 ⟨Finset.mem_univ _, h⟩)

/-- Two families in the same order have the same first greatest index. -/
theorem first_congr {f g : Fin 256 → EReal} (h : ∀ j k, f j ≤ f k ↔ g j ≤ g k) : first f = first g :=
  le_antisymm (first_le fun k => (h _ _).2 (le_first g k)) (first_le fun k => (h _ _).1 (le_first f k))

/-- The head of the stable sort of a strictly increasing list, greater values first, is the first greatest. -/
theorem head_stableSort (f : Fin 256 → EReal) (B : Fin 256 → Fin 256 → Bool) (hB : ∀ j k, B j k = true ↔ f k < f j) :
    ∀ l : List (Fin 256), l.Pairwise (· < ·) → l ≠ [] →
      ∃ h t, stableSort B l = h :: t ∧ h ∈ l ∧ ∀ k ∈ l, f k ≤ f h ∧ (f k = f h → h ≤ k)
  | [], _, h => absurd rfl h
  | [a], _, _ => ⟨a, [], rfl, by simp, by simp⟩
  | a :: b :: l, hp, _ => by
    obtain ⟨h, t, e, hm, hk⟩ := head_stableSort f B hB (b :: l) (List.pairwise_cons.1 hp).2 (by simp)
    have ha := (List.pairwise_cons.1 hp).1
    show ∃ h t, insertBefore B a (stableSort B (b :: l)) = h :: t ∧ _
    rw [e]
    by_cases hab : B h a = true
    · have hlt := (hB h a).1 hab
      refine ⟨h, insertBefore B a t, by simp [insertBefore, hab], List.mem_cons_of_mem _ hm, fun k hkm => ?_⟩
      rcases List.mem_cons.1 hkm with rfl | hkm
      · exact ⟨hlt.le, fun e => absurd e hlt.ne⟩
      · exact hk k hkm
    · have hle : f h ≤ f a := not_lt.1 fun c => hab ((hB h a).2 c)
      refine ⟨a, h :: t, by simp [insertBefore, hab], by simp, fun k hkm => ?_⟩
      rcases List.mem_cons.1 hkm with rfl | hkm
      · exact ⟨le_rfl, fun _ => le_rfl⟩
      · exact ⟨(hk k hkm).1.trans hle, fun _ => (ha k hkm).le⟩

/-- A stable sort's position zero, greater values first, comes from the first greatest. -/
theorem sortedFrom_zero (f : Fin 256 → EReal) (B : Fin 256 → Fin 256 → Bool) (hB : ∀ j k, B j k = true ↔ f k < f j)
    (z : Fin 256) (hz : z.1 = 0) : sortedFrom B z = first f := by
  obtain ⟨h, t, e, -, hk⟩ := head_stableSort f B hB (List.finRange 256) (List.pairwise_lt_finRange 256) (by
    intro c; simpa using congrArg List.length c)
  have hf : first f = h := first_eq fun k => hk k (List.mem_finRange k)
  rw [hf]
  have e' : sortPositions 256 B = h :: t := e
  unfold sortedFrom
  obtain ⟨z, hz'⟩ := z
  obtain rfl : z = 0 := hz
  simp [e']

/-! ## Softmax -/

/-- The greatest of the values, over the least extended real. -/
def top (x : Fin 256 → EReal) : EReal := Finset.fold max (lit 0xFF800000#32) x Finset.univ

/-- The sum of the exponentials of the values less the greatest. -/
def den (x : Fin 256 → EReal) : EReal := ∑ k, Ideal.exp (x k - top x)

/-- The softmax. -/
def soft (x : Fin 256 → EReal) (j : Fin 256) : EReal := Ideal.div (Ideal.exp (x j - top x)) (den x)

/-- The quotient of reals, the divisor not zero, is the reals' quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The softmax of real values: the greatest value's real, the sum's real, and that the sum is positive. -/
theorem soft_real (x : Fin 256 → EReal) (y : Fin 256 → ℝ) (hx : ∀ j, x j = (y j : EReal)) :
    ∃ M s : ℝ, (∀ j, y j ≤ M) ∧ (∃ j, y j = M) ∧ 0 < s ∧ den x = (s : EReal)
      ∧ ∀ j, soft x j = ((Real.exp (y j - M) / s : ℝ) : EReal) := by
  obtain ⟨i, -, hi⟩ := Finset.exists_max_image (Finset.univ : Finset (Fin 256)) y Finset.univ_nonempty
  have hM : top x = (y i : EReal) := by
    unfold top
    rw [lit_bot]
    refine le_antisymm (Finset.fold_max_le _ |>.2 ⟨bot_le, fun k _ => ?_⟩) (Finset.le_fold_max _ |>.2 (.inr ⟨i, Finset.mem_univ _, (hx i).ge⟩))
    rw [hx]
    exact EReal.coe_le_coe_iff.2 (hi k (Finset.mem_univ _))
  have he : ∀ j, Ideal.exp (x j - top x) = ((Real.exp (y j - y i) : ℝ) : EReal) := fun j => by
    rw [hM, hx, ← EReal.coe_sub]; rfl
  have hs : den x = ((∑ k, Real.exp (y k - y i) : ℝ) : EReal) := by
    unfold den
    simp only [he]
    induction (Finset.univ : Finset (Fin 256)) using Finset.cons_induction with
    | empty => simp
    | cons a s ha ih => rw [Finset.sum_cons, Finset.sum_cons, ih, EReal.coe_add]
  have hpos : 0 < ∑ k, Real.exp (y k - y i) := Finset.sum_pos (fun k _ => Real.exp_pos _) Finset.univ_nonempty
  refine ⟨y i, _, fun j => hi j (Finset.mem_univ _), ⟨i, rfl⟩, hpos, hs, fun j => ?_⟩
  unfold soft
  rw [he, hs, div_coe_coe _ hpos.ne']

/-- The softmax of real values orders them as they are. -/
theorem first_soft {x : Fin 256 → EReal} (hx : ∀ j, ∃ y : ℝ, x j = (y : EReal)) : first (soft x) = first x := by
  choose y hy using hx
  obtain ⟨M, s, -, -, hs, -, h⟩ := soft_real x y hy
  refine first_congr fun j k => ?_
  rw [h, h, hy, hy, EReal.coe_le_coe_iff, EReal.coe_le_coe_iff, div_le_div_iff_of_pos_right hs, Real.exp_le_exp]
  exact sub_le_sub_iff_right M

/-- The softmax of real values is one over the sum of the exponentials exactly where the value is greatest. -/
theorem soft_eq_iff {x : Fin 256 → EReal} (hx : ∀ j, ∃ y : ℝ, x j = (y : EReal)) (j : Fin 256) :
    soft x j = Ideal.div 1 (den x) ↔ ∀ k, x k ≤ x j := by
  choose y hy using hx
  obtain ⟨M, s, hM, ⟨i, hi⟩, hs, hd, h⟩ := soft_real x y hy
  have h1 : Ideal.div 1 (den x) = ((1 / s : ℝ) : EReal) := by
    rw [hd]; exact div_coe_coe 1 hs.ne'
  rw [h, h1, EReal.coe_eq_coe_iff, div_left_inj' hs.ne', Real.exp_eq_one_iff, sub_eq_zero]
  constructor
  · intro e k
    rw [hy, hy, e]; exact EReal.coe_le_coe_iff.2 (hM k)
  · intro hk
    have := hk i
    rw [hy, hy, EReal.coe_le_coe_iff, hi] at this
    exact le_antisymm (hM j) this

/-- The least of the positions marked, 256 at the others, as a signed word: the first greatest, when the greatest are
    marked. -/
theorem fold_minsi {f : Fin 256 → EReal} {P : Fin 256 → Prop} [DecidablePred P] (hP : ∀ j, P j ↔ ∀ k, f k ≤ f j) :
    Finset.fold IntOp.minsi 2147483647#32 (fun j : Fin 256 => if P j then BitVec.ofNat 32 j.1 else 256#32) Finset.univ
      = BitVec.ofNat 32 (first f).1 := by
  have hn : ∀ j : Fin 256, (BitVec.ofNat 32 j.1).toInt = (j.1 : Int) := fun j => by
    rw [BitVec.toInt_eq_toNat_of_lt (by simp; omega)]; simp; omega
  apply BitVec.eq_of_toInt_eq
  have hm : ∀ a b : BitVec 32, (IntOp.minsi a b).toInt = min a.toInt b.toInt := fun a b => by
    unfold IntOp.minsi
    simp only [BitVec.slt_iff_toInt_lt, min_def]
    split <;> split <;> omega
  rw [← Finset.fold_hom (op' := min) (m := BitVec.toInt) hm, hn]
  refine le_antisymm (Finset.fold_min_le _ |>.2 (.inr ⟨first f, Finset.mem_univ _, ?_⟩)) (Finset.le_fold_min _ |>.2 ⟨?_, fun j _ => ?_⟩)
  · rw [if_pos ((hP _).2 (le_first f)), hn]
  · have : (2147483647#32).toInt = 2147483647 := by decide
    rw [this]; omega
  · split
    · next h =>
      rw [hn]
      exact_mod_cast first_le ((hP j).1 h)
    · have : (256#32).toInt = 256 := by decide
      rw [this]; omega

/-- A position's word compared with another's, as a float: one where they agree, zero elsewhere. -/
theorem hot (j i : Fin 256) :
    FloatOps.sitofp (F := Ideal) .f32 (BitVec.setWidth 32 (IntOp.cmpi .eq (BitVec.ofNat 32 j.1) (BitVec.ofNat 32 i.1)))
      = if j = i then (1 : EReal) else 0 := by
  have h : IntOp.cmpi .eq (BitVec.ofNat 32 j.1) (BitVec.ofNat 32 i.1) = if j = i then 1#1 else 0#1 := by
    unfold IntOp.cmpi
    by_cases e : j = i
    · simp [e]
    · have : BitVec.ofNat 32 j.1 ≠ BitVec.ofNat 32 i.1 := fun c => e (Fin.ext (by
        have := congrArg BitVec.toNat c
        simp at this; omega))
      rw [if_neg e, beq_false_of_ne this]
      rfl
  rw [h]
  split <;> simp [FloatOps.sitofp]

/-- The sum of a family times one at `i` and zero elsewhere is the family at `i`. -/
theorem sum_hot (f : Fin 256 → EReal) (i : Fin 256) : (∑ j, f j * if j = i then (1 : EReal) else 0) = f i := by
  simp

end Cert.Proof

end
-- ==== Proof.Finite.lean ====
/- The similarities and the replacement scores are real at every input, infinite ones among them. Hand-written,
   untrusted. -/
module

public import proofs.«01_k».proof.Proof.Arg

@[expose] public section

noncomputable section

namespace Cert.Proof

open Idealize.ShloMosaic

/-- The extended real is a real. -/
def IsR (x : EReal) : Prop := ∃ y : ℝ, x = (y : EReal)

/-- A sum of reals is real. -/
theorem IsR.add {x y : EReal} : IsR x → IsR y → IsR (x + y) := by
  rintro ⟨a, rfl⟩ ⟨b, rfl⟩; exact ⟨a + b, (EReal.coe_add _ _).symm⟩
/-- A difference of reals is real. -/
theorem IsR.sub {x y : EReal} : IsR x → IsR y → IsR (x - y) := by
  rintro ⟨a, rfl⟩ ⟨b, rfl⟩; exact ⟨a - b, (EReal.coe_sub _ _).symm⟩
/-- A product of reals is real. -/
theorem IsR.mul {x y : EReal} : IsR x → IsR y → IsR (x * y) := by
  rintro ⟨a, rfl⟩ ⟨b, rfl⟩; exact ⟨a * b, (EReal.coe_mul _ _).symm⟩
/-- One is real. -/
theorem IsR.one : IsR 1 := ⟨1, rfl⟩
/-- Zero is real. -/
theorem IsR.zero : IsR 0 := ⟨0, rfl⟩
/-- The greater of two reals is real. -/
theorem IsR.max {x y : EReal} (hx : IsR x) (hy : IsR y) : IsR (max x y) := by
  rcases max_choice x y with h | h <;> rw [h] <;> assumption

/-- A sum of reals is a real. -/
theorem IsR.sum {ι : Type} (s : Finset ι) {f : ι → EReal} (h : ∀ i, IsR (f i)) : IsR (∑ i ∈ s, f i) := by
  induction s using Finset.cons_induction with
  | empty => exact IsR.zero
  | cons a s ha ih => rw [Finset.sum_cons]; exact (h a).add ih

/-- A number between two reals is a real. -/
theorem IsR.between {x : EReal} {a b : ℝ} (h1 : (a : EReal) ≤ x) (h2 : x ≤ (b : EReal)) : IsR x :=
  ⟨x.toReal, (EReal.coe_toReal (ne_top_of_le_ne_top (EReal.coe_ne_top b) h2) (ne_bot_of_le_ne_bot (EReal.coe_ne_bot a) h1)).symm⟩

/-- What is cut to the unit interval is a real. -/
theorem isR_clip (x : EReal) : IsR (clip x) :=
  IsR.between (a := 0) (b := 1) (le_min zero_le_one (le_max_left _ _)) (min_le_left _ _)

/-- A hyperbolic tangent is a real. -/
theorem isR_tanh (x : EReal) : IsR (Ideal.tanh x) := by
  induction x with
  | bot => exact ⟨-1, rfl⟩
  | top => exact ⟨1, rfl⟩
  | coe r => exact ⟨Real.tanh r, rfl⟩

/-- A real over a positive real is a real. -/
theorem IsR.div {x y : EReal} (hx : IsR x) {b : ℝ} (hb : 0 < b) (hy : y = (b : EReal)) : IsR (Ideal.div x y) := by
  obtain ⟨a, rfl⟩ := hx
  exact ⟨a / b, by rw [hy, div_coe_coe _ hb.ne']⟩

/-- A square is not negative. -/
theorem sq_nonneg' (x : EReal) : 0 ≤ x * x := by
  rcases le_total 0 x with h | h
  · exact mul_nonneg h h
  · rw [← neg_mul_neg]
    exact mul_nonneg (EReal.neg_nonneg.2 h) (EReal.neg_nonneg.2 h)

/-- A vector of reals has a positive real length. -/
theorem len_real {x : Fin 128 → EReal} (hx : ∀ k, IsR (x k)) : ∃ b : ℝ, 0 < b ∧ len x = (b : EReal) := by
  obtain ⟨s, hs⟩ := IsR.sum Finset.univ fun k => (hx k).mul (hx k)
  have h0 : 0 ≤ s := by
    have : (0 : EReal) ≤ ∑ k, x k * x k := Finset.sum_nonneg fun k _ => sq_nonneg' _
    rw [hs] at this
    exact_mod_cast this
  obtain ⟨e, he, hl⟩ := lit_pos 0x358637BD#32 (by decide) (by decide) (by decide)
  refine ⟨max (Real.sqrt s) e, lt_max_of_lt_right he, ?_⟩
  unfold len
  rw [hs, hl, EReal.coe_strictMono.monotone.map_max]
  congr 1
  show (if s < 0 then (⊥ : EReal) else (Real.sqrt s : EReal)) = _
  rw [if_neg (not_lt.2 h0)]

/-- A vector with an infinite component has infinite length. -/
theorem len_top {x : Fin 128 → EReal} {k : Fin 128} (hk : ¬ IsR (x k)) : len x = ⊤ := by
  have hkk : x k * x k = ⊤ := by
    induction hx : x k with
    | bot => simp
    | top => simp
    | coe r => exact absurd ⟨r, hx⟩ hk
  have : (∑ k, x k * x k) = ⊤ := top_unique <| hkk ▸
    Finset.single_le_sum (f := fun k => x k * x k) (fun k _ => sq_nonneg' _) (Finset.mem_univ k)
  unfold len
  rw [this]
  exact max_eq_left le_top

/-- A component of a vector over the vector's length is a real, whatever the vector. -/
theorem isR_unit (x : Fin 128 → EReal) (d : Fin 128) : IsR (Ideal.div (x d) (len x)) := by
  by_cases h : ∀ k, IsR (x k)
  · obtain ⟨b, hb, e⟩ := len_real h
    exact (h d).div hb e
  · obtain ⟨k, hk⟩ := not_forall.1 h
    rw [len_top hk]
    exact ⟨0, by simp [Ideal.div]⟩

namespace Row
variable (R : Row)

/-- A similarity is a real. -/
theorem isR_sim (n : Fin 256) : IsR (R.sim n) := IsR.sum _ fun d => (isR_unit R.ck d).mul (isR_unit (R.wk n) d)

/-- A positive literal is a real. -/
theorem isR_lit (w : BitVec 32) (hs : w.extractLsb' 31 1 = 0#1) (h0 : (w.extractLsb' 23 8).toNat ≠ 0)
    (h1 : (w.extractLsb' 23 8).toNat ≠ 255) : IsR (lit w) :=
  let ⟨y, _, e⟩ := lit_pos w hs h0 h1
  ⟨y, e⟩

/-- A replacement score is a real. -/
theorem isR_rs (n : Fin 256) : IsR (R.rs n) :=
  (((((isR_lit _ (by decide) (by decide) (by decide)).mul (IsR.one.sub (isR_clip _))).add
    ((isR_lit _ (by decide) (by decide) (by decide)).mul (IsR.one.sub (isR_clip _)))).add
    ((isR_lit _ (by decide) (by decide) (by decide)).mul (isR_clip _))).add
    ((isR_lit _ (by decide) (by decide) (by decide)).mul (IsR.one.sub (isR_clip _)))).add
    ((isR_lit _ (by decide) (by decide) (by decide)).mul (IsR.one.sub (R.isR_sim n)))

/-- A similarity over the temperature is a real. -/
theorem isR_simT (n : Fin 256) : IsR (R.simT n) :=
  let ⟨_, hb, e⟩ := lit_pos 0x3F000000#32 (by decide) (by decide) (by decide)
  (R.isR_sim n).div hb e

/-- A replacement score over the temperature is a real. -/
theorem isR_rsT (n : Fin 256) : IsR (R.rsT n) :=
  let ⟨_, hb, e⟩ := lit_pos 0x3F000000#32 (by decide) (by decide) (by decide)
  (R.isR_rs n).div hb e

end Row

end Cert.Proof

end
-- ==== Proof.Block.lean ====
/- The kernel's values over one block of 32 batch rows, read at an index: row by row, the functions of Spec.
   Hand-written, untrusted. -/
module

public import proofs.«01_k».proof.Proof.Finite
public import proofs.«01_k».proof.Proof.Gen.KernelIdeal.Frame
public import Idealize.ShloMosaic.Lib.Pointwise

@[expose] public section

noncomputable section

namespace Cert.Proof

open Idealize.ShloMosaic Cert.KernelIdeal Cert.KernelIdeal.Gen

/-- The twelve blocks that one grid point reads. -/
structure Blk where
  x0 : Vec Ideal S32x128 .f32
  x1 : Vec Ideal S32x256x128 .f32
  x2 : Vec Ideal S32x256x128 .f32
  x3 : Vec Ideal S32x768 .f32
  x4 : Vec Ideal S128x128 .f32
  x5 : Vec Ideal S128 .f32
  x6 : Vec Ideal S128x128 .f32
  x7 : Vec Ideal S128 .f32
  x8 : Vec Ideal S4x128 .f32
  x9 : Vec Ideal S4x1 .f32
  x10 : Vec Ideal S2x128 .f32
  x11 : Vec Ideal S2x1 .f32

namespace Blk

/-- A function of the twelve blocks, at these. -/
def ap {α : Type} (B : Blk) (f : Vec Ideal S32x128 .f32 → Vec Ideal S32x256x128 .f32 → Vec Ideal S32x256x128 .f32 →
    Vec Ideal S32x768 .f32 → Vec Ideal S128x128 .f32 → Vec Ideal S128 .f32 → Vec Ideal S128x128 .f32 →
    Vec Ideal S128 .f32 → Vec Ideal S4x128 .f32 → Vec Ideal S4x1 .f32 → Vec Ideal S2x128 .f32 → Vec Ideal S2x1 .f32 → α) : α :=
  f B.x0 B.x1 B.x2 B.x3 B.x4 B.x5 B.x6 B.x7 B.x8 B.x9 B.x10 B.x11

/-- Row `r` of the blocks. -/
def row (B : Blk) (r : Fin 32) : Row where
  h k := B.x0 (ix2 r k)
  wk n d := B.x1 (ix3 r n d)
  wv n d := B.x2 (ix3 r n d)
  pr n := B.x3 (ix2 r ⟨n.1, by omega⟩)
  us n := B.x3 (ix2 r ⟨256 + n.1, by omega⟩)
  ag n := B.x3 (ix2 r ⟨512 + n.1, by omega⟩)
  Wk d k := B.x4 (ix2 d k)
  bk d := B.x5 (ix1 d)
  Wv d k := B.x6 (ix2 d k)
  bv d := B.x7 (ix1 d)
  wwg k := B.x8 (ix2 0 k)
  bwg := B.x9 (ix2 0 0)
  wmg k := B.x8 (ix2 1 k)
  bmg := B.x9 (ix2 1 0)
  wbg k := B.x8 (ix2 2 k)
  bbg := B.x9 (ix2 2 0)
  wig k := B.x8 (ix2 3 k)
  big := B.x9 (ix2 3 0)
  wso k := B.x10 (ix2 0 k)
  bso := B.x11 (ix2 0 0)
  wsp k := B.x10 (ix2 1 k)
  bsp := B.x11 (ix2 1 0)

variable (B : Blk) (r : Fin 32) (n : Fin 256) (d : Fin 128)

/-- The protection column of the packed block. -/
theorem pr_eq : B.ap (k0_pay44 (F := Ideal)) (ix2 r n) = (B.row r).pr n := by
  show k0_pay2 (F := Ideal) (View.ld B.x3 r0_0) (ix2 r n) = _
  pointwise [k0_pay2, row]

/-- The usage column of the packed block. -/
theorem us_eq : k0_pay3 (F := Ideal) (View.ld B.x3 r0_1) (ix2 r n) = (B.row r).us n := by
  pointwise [k0_pay3, row]

/-- The candidate key. -/
theorem ck_eq : B.ap (k0_pay45 (F := Ideal)) (ix2 r d) = (B.row r).ck d := by
  show k0_pay5 (F := Ideal) (View.ld B.x0 r0_3) (View.ld B.x4 r0_4) (View.ld B.x5 r0_5) (ix2 r d) = _
  pointwise [k0_pay5, row, Row.ck, lin]

/-- The candidate value. -/
theorem cv_eq : k0_pay6 (F := Ideal) (View.ld B.x0 r0_3) (View.ld B.x6 r0_4) (View.ld B.x7 r0_5) (ix2 r d) = (B.row r).cv d := by
  pointwise [k0_pay6, row, Row.cv, lin]

/-- The write strength. -/
theorem ws_eq : B.ap (k0_pay47 (F := Ideal)) (ix2 r 0) = (B.row r).ws := by
  show k0_pay8 (F := Ideal) (View.ld B.x0 r0_3) (View.ld B.x8 r0_6) (View.ld B.x9 r0_7) (ix2 r 0) = _
  pointwise [k0_pay8, k0_pay7, row, Row.ws, lin]

/-- The merge gate before its other terms. -/
theorem mg_eq : k0_pay9 (F := Ideal) (B.ap k0_pay46) (ix2 r 0) = lin (B.row r).h (B.row r).wmg (B.row r).bmg := by
  show k0_pay9 (F := Ideal) (k0_pay7 (View.ld B.x0 r0_3) (View.ld B.x8 r0_6) (View.ld B.x9 r0_7)) (ix2 r 0) = _
  pointwise [k0_pay9, k0_pay7, row, lin]

/-- The binding gate before its other term. -/
theorem bg_eq : B.ap (k0_pay48 (F := Ideal)) (ix2 r 0) = lin (B.row r).h (B.row r).wbg (B.row r).bbg := by
  show k0_pay10 (F := Ideal) (k0_pay7 (View.ld B.x0 r0_3) (View.ld B.x8 r0_6) (View.ld B.x9 r0_7)) (ix2 r 0) = _
  pointwise [k0_pay10, k0_pay7, row, lin]

/-- The importance. -/
theorem im_eq : B.ap (k0_pay49 (F := Ideal)) (ix2 r 0) = (B.row r).im := by
  show k0_pay11 (F := Ideal) (k0_pay7 (View.ld B.x0 r0_3) (View.ld B.x8 r0_6) (View.ld B.x9 r0_7)) (ix2 r 0) = _
  pointwise [k0_pay11, k0_pay7, row, Row.im, lin]

/-- The occupancy by length. -/
theorem nocc_eq : B.ap (k0_pay51 (F := Ideal)) (ix2 r n) = (B.row r).nocc n := by
  show k0_pay19 (F := Ideal) (View.ld B.x2 r0_8) (ix2 r n) = _
  pointwise [k0_pay19, row, Row.nocc, clip]

/-- The occupancy. -/
theorem occ_eq : B.ap (k0_pay54 (F := Ideal)) (ix2 r n) = (B.row r).occ n := by
  show k0_pay23 (F := Ideal) (B.ap k0_pay51) (k0_pay21 (View.ld B.x2 r0_8) (View.ld B.x10 r0_9)) (k0_pay22 (View.ld B.x11 r0_10)) (ix2 r n) = _
  pointwise [k0_pay23, k0_pay22, k0_pay21, k0_pay20, nocc_eq]
  simp only [mul_comm (B.x10 _)]
  rfl

/-- One less the occupancy. -/
theorem nocc'_eq : B.ap (k0_pay58 (F := Ideal)) (ix2 r n) = 1 - (B.row r).occ n := by
  rw [← occ_eq]
  show k0_pay27 (F := Ideal) (B.ap k0_pay51) (B.ap k0_pay52) (B.ap k0_pay53) (ix2 r n) = 1 - k0_pay23 (F := Ideal) (B.ap k0_pay51) (B.ap k0_pay52) (B.ap k0_pay53) (ix2 r n)
  pointwise [k0_pay27]

/-- The effective usage. -/
theorem eu_eq : B.ap (k0_pay56 (F := Ideal)) (ix2 r n) = (B.row r).eu n := by
  unfold Row.eu
  rw [← occ_eq, ← us_eq]
  show k0_pay25 (F := Ideal) (k0_pay3 (View.ld B.x3 r0_1)) (B.ap k0_pay51) (B.ap k0_pay52) (B.ap k0_pay53) (ix2 r n)
    = clip (lit 0x3F000000#32 * k0_pay23 (F := Ideal) (B.ap k0_pay51) (B.ap k0_pay52) (B.ap k0_pay53) (ix2 r n) + _)
  pointwise [k0_pay25, clip]

/-- The effective age. -/
theorem ea_eq : B.ap (k0_pay57 (F := Ideal)) (ix2 r n) = (B.row r).ea n := by
  show k0_pay26 (F := Ideal) (k0_pay4 (View.ld B.x3 r0_2)) (ix2 r n) = _
  pointwise [k0_pay26, k0_pay4, row, Row.ea, clip]

/-- The effective protection. -/
theorem ep_eq : B.ap (k0_pay55 (F := Ideal)) (ix2 r n) = (B.row r).ep n := by
  show k0_pay24 (F := Ideal) (B.ap k0_pay44) (k0_pay20 (View.ld B.x2 r0_8) (View.ld B.x10 r0_9)) (View.ld B.x11 r0_11) (ix2 r n) = _
  pointwise [k0_pay24, k0_pay20, pr_eq]
  simp only [mul_comm (B.x10 _)]
  rfl

end Blk

end Cert.Proof

end
-- ==== Proof.Block2.lean ====
/- The kernel's values over one block that read the similarities and the chosen slots. Hand-written, untrusted. -/
module

public import proofs.«01_k».proof.Proof.Block

@[expose] public section

noncomputable section

namespace Cert.Proof.Blk

open Idealize.ShloMosaic Cert.KernelIdeal Cert.KernelIdeal.Gen

variable (B : Blk) (r : Fin 32) (n : Fin 256) (d : Fin 128)

/-- A diagonal picked from eight: the sum over the eight of the one whose position agrees. -/
theorem sum_diag (a : Nat) (h : a < 8) (f : Fin 8 → EReal) :
    (∑ x : Fin 8, Scalar.select (IntOp.cmpi .eq (BitVec.ofNat 32 a) (BitVec.ofNat 32 x.1)) (f x) 0) = f ⟨a, h⟩ := by
  have e : ∀ x : Fin 8, Scalar.select (IntOp.cmpi .eq (BitVec.ofNat 32 a) (BitVec.ofNat 32 x.1)) (f x) 0
      = if x = ⟨a, h⟩ then f x else 0 := fun x => by
    have hx : (BitVec.ofNat 32 a = BitVec.ofNat 32 x.1) ↔ x = ⟨a, h⟩ := by
      constructor
      · intro c
        have := congrArg BitVec.toNat c
        simp at this
        exact Fin.ext (by simp only; omega)
      · rintro rfl; rfl
    by_cases c : x = ⟨a, h⟩
    · rw [if_pos c]
      simp [Scalar.select, IntOp.cmpi, hx.2 c]
    · rw [if_neg c]
      have : (BitVec.ofNat 32 a == BitVec.ofNat 32 x.1) = false := beq_false_of_ne fun k => c (hx.1 k)
      unfold Scalar.select IntOp.cmpi
      simp only [this]
      rfl
  simp only [e]
  simp

/-- A choice by a bit is a choice by whether the bit is one. -/
theorem select_eq {α : Type} (b : BitVec 1) (x y : α) : Scalar.select b x y = if b = 1#1 then x else y := by
  unfold Scalar.select
  rfl

set_option maxHeartbeats 2000000 in
/-- The similarity. -/
theorem sim_eq : B.ap (k0_pay50 (F := Ideal)) (ix2 r n) = (B.row r).sim n := by
  show k0_pay18 (F := Ideal) (k0_pay12 (View.ld B.x1 r0_8)) (k0_pay13 (B.ap k0_pay45)) k0_pay14
    (k0_pay15 (B.ap k0_pay45) (View.ld B.x1 r0_8)) (k0_pay16 (B.ap k0_pay45) (View.ld B.x1 r0_8))
    (k0_pay17 (B.ap k0_pay45)) (ix2 r n) = _
  pointwise [k0_pay18, k0_pay17, k0_pay16, k0_pay15, k0_pay14, k0_pay13, k0_pay12, ck_eq]
  by_cases h1 : r.1 < 8
  · rw [dif_pos h1, sum_diag _ h1]
    rfl
  rw [dif_neg h1]
  by_cases h2 : r.1 - 8 < 8
  · rw [dif_pos h2, sum_diag _ h2]
    have e : ∀ h, (⟨8 + (r.1 - 8), h⟩ : Fin 32) = r := fun _ => Fin.ext (by simp only; omega)
    simp only [e]
    rfl
  rw [dif_neg h2]
  by_cases h3 : r.1 - 8 - 8 < 8
  · rw [dif_pos h3, sum_diag _ h3]
    have e : ∀ h, (⟨16 + (r.1 - 8 - 8), h⟩ : Fin 32) = r := fun _ => Fin.ext (by simp only; omega)
    simp only [e]
    rfl
  · rw [dif_neg h3, sum_diag _ (show r.1 - 8 - 8 - 8 < 8 by omega)]
    have e : ∀ h, (⟨24 + (r.1 - 8 - 8 - 8), h⟩ : Fin 32) = r := fun _ => Fin.ext (by simp only; omega)
    simp only [e]
    rfl

/-! What each of the later values reads, over these blocks. -/

/-- The index of the best match, from the similarities. -/
theorem ap60 : B.ap (k0_pay60 (F := Ideal)) = k0_pay28 (B.ap k0_pay50) := by simp only [ap, k0_pay60]
/-- The slots' numbers. -/
theorem ap59 : B.ap (k0_pay59 (F := Ideal)) = iota .tc S32x256 32 [1] iota_S32x256_d1_w32 := by simp only [ap, k0_pay59]
/-- The greatest similarity, from the similarities and the index. -/
theorem ap61 : B.ap (k0_pay61 (F := Ideal)) = k0_pay33 (B.ap k0_pay50) (B.ap k0_pay59) (B.ap k0_pay60) := by
  simp only [ap, k0_pay61]
/-- The occupancy at the best match, from the occupancies and the index. -/
theorem ap62 : B.ap (k0_pay62 (F := Ideal)) = k0_pay34 (B.ap k0_pay54) (B.ap k0_pay59) (B.ap k0_pay60) := by
  simp only [ap, k0_pay62]
/-- The merge preference before its sigmoid, from the stages that it reads. -/
theorem ap63 : B.ap (k0_pay63 (F := Ideal)) = k0_pay35 (k0_pay9 (B.ap k0_pay46)) (B.ap k0_pay50) (B.ap k0_pay54)
    (B.ap k0_pay56) (B.ap k0_pay57) (B.ap k0_pay59) (B.ap k0_pay60) := by
  simp only [ap, k0_pay63]
/-- The slots' positions. -/
theorem io_eq : B.ap (k0_pay59 (F := Ideal)) (ix2 r n) = BitVec.ofNat 32 n.1 := by
  rw [ap59]
  pointwise []
/-- The replacement scores over the temperature, as the kernel holds them. -/
def sc : FVec Ideal S32x256 .f32 := k0_pay29 (B.ap k0_pay50) (B.ap k0_pay55) (B.ap k0_pay56) (B.ap k0_pay57)
  (B.ap k0_pay58) (Scalar.ofBits .f32 0x3F933333#32)
/-- Their greatest, as the kernel holds it. -/
def scTop : FVec Ideal S32x256 .f32 := k0_pay30 (B.ap k0_pay50) (B.ap k0_pay55) (B.ap k0_pay56) (B.ap k0_pay57)
  (B.ap k0_pay58) (Scalar.ofBits .f32 0x3F933333#32)
/-- The masses written, from the stages that they read. -/
theorem ap64 : B.ap (k0_pay64 (F := Ideal)) = k0_pay39 (B.ap k0_pay47) (B.ap k0_pay50) (B.ap k0_pay55) (B.ap k0_pay59)
    (B.ap k0_pay60) (k0_pay31 (B.ap k0_pay59) B.sc B.scTop) (B.ap k0_pay61) (B.ap k0_pay62) (B.ap k0_pay63) := by
  simp only [ap, k0_pay64, sc, scTop]

/-- The slot to merge into, as a word. -/
theorem mi_eq : B.ap (k0_pay60 (F := Ideal)) (ix2 r 0) = BitVec.ofNat 32 (B.row r).mi.1 := by
  rw [ap60]
  pointwise [k0_pay28, sim_eq]
  exact fold_minsi (P := fun j => soft (B.row r).simT j = Ideal.div 1 (den (B.row r).simT))
    (soft_eq_iff (B.row r).isR_simT)

/-- The replacement score over the temperature. -/
theorem rsT_eq : B.sc (ix2 r n) = (B.row r).rsT n := by
  unfold sc
  pointwise [k0_pay29, sim_eq, ep_eq, eu_eq, ea_eq, nocc'_eq, Row.rsT, Row.rs]

/-- The greatest replacement score over the temperature. -/
theorem scTop_eq : B.scTop (ix2 r n) = top (B.row r).rsT := by
  have h : B.scTop = k0_pay30 (F := Ideal) (B.ap k0_pay50) (B.ap k0_pay55) (B.ap k0_pay56) (B.ap k0_pay57)
    (B.ap k0_pay58) (Scalar.ofBits .f32 0x3F933333#32) := rfl
  rw [h, k0_pay30]
  have h' : k0_pay29 (F := Ideal) (B.ap k0_pay50) (B.ap k0_pay55) (B.ap k0_pay56) (B.ap k0_pay57)
    (B.ap k0_pay58) (Scalar.ofBits .f32 0x3F933333#32) = B.sc := rfl
  rw [h']
  pointwise [rsT_eq, top]

/-- The slot to replace, as a word. -/
theorem ri_eq : k0_pay31 (F := Ideal) (B.ap k0_pay59) B.sc B.scTop (ix2 r 0) = BitVec.ofNat 32 (B.row r).ri.1 := by
  pointwise [k0_pay31, io_eq, rsT_eq, scTop_eq]
  exact fold_minsi (P := fun j => soft (B.row r).rsT j = Ideal.div 1 (den (B.row r).rsT))
    (soft_eq_iff (B.row r).isR_rsT)

/-- The similarity at the slot to merge into. -/
theorem ms_eq : B.ap (k0_pay61 (F := Ideal)) (ix2 r 0) = (B.row r).sim (B.row r).mi := by
  rw [ap61]
  pointwise [k0_pay33, k0_pay32, io_eq, sim_eq, mi_eq]
  simp only [hot, sum_hot]

/-- The occupancy at the slot to merge into. -/
theorem mo_eq : B.ap (k0_pay62 (F := Ideal)) (ix2 r 0) = (B.row r).occ (B.row r).mi := by
  rw [ap62]
  pointwise [k0_pay34, k0_pay32, io_eq, occ_eq, mi_eq]
  simp only [hot, sum_hot]

/-- The similarity picked out at the best match is the row's. -/
theorem ms'_eq : k0_pay33 (F := Ideal) (B.ap k0_pay50) (B.ap k0_pay59) (B.ap k0_pay60) (ix2 r 0) = (B.row r).sim (B.row r).mi := by
  rw [← ap61, ms_eq]
/-- The occupancy picked out at the best match is the row's. -/
theorem mo'_eq : k0_pay34 (F := Ideal) (B.ap k0_pay54) (B.ap k0_pay59) (B.ap k0_pay60) (ix2 r 0) = (B.row r).occ (B.row r).mi := by
  rw [← ap62, mo_eq]

/-- The merge preference. -/
theorem mp_eq : k0_pay36 (B.ap (k0_pay63 (F := Ideal))) (ix2 r 0) = (B.row r).mp := by
  rw [ap63]
  pointwise [k0_pay36, k0_pay35, k0_pay32, io_eq, ms'_eq, mo'_eq, sim_eq, occ_eq, eu_eq, ea_eq, mi_eq, mg_eq]
  simp only [hot, sum_hot]
  rfl

/-- Whether the row merges. -/
theorem um_eq : k0_pay37 (F := Ideal) (B.ap k0_pay61) (B.ap k0_pay62) (B.ap k0_pay63) (ix2 r 0) = (B.row r).um := by
  pointwise [k0_pay37, ms_eq, mo_eq, mp_eq]
  rfl

/-- The binding strength. -/
theorem bs_eq : k0_pay38 (F := Ideal) (B.ap k0_pay48) (B.ap k0_pay61) (ix2 r 0) = (B.row r).bs := by
  pointwise [k0_pay38, ms_eq, bg_eq, Row.bs]

/-- The mass written. -/
theorem ow_eq : B.ap (k0_pay64 (F := Ideal)) (ix2 r n) = (B.row r).ow n := by
  rw [ap64]
  pointwise [k0_pay39, io_eq, ws_eq, sim_eq, ep_eq, mi_eq, ri_eq, um_eq]
  have e : Scalar.select (B.row r).um (BitVec.ofNat 32 (B.row r).mi.1) (BitVec.ofNat 32 (B.row r).ri.1)
      = BitVec.ofNat 32 (B.row r).ti.1 := by
    rw [select_eq]
    unfold Row.ti
    split <;> rfl
  rw [e, hot]
  rfl

/-- How much of the key is written. -/
theorem km_eq : k0_pay40 (F := Ideal) (B.ap k0_pay48) (B.ap k0_pay61) (B.ap k0_pay62) (B.ap k0_pay63) (ix2 r 0) = (B.row r).km := by
  pointwise [k0_pay40, bs_eq, um_eq, select_eq]
  rfl

/-- The key after the step. -/
theorem uk_eq : k0_pay41 (F := Ideal) (B.ap k0_pay45) B.x1 (B.ap k0_pay64) (k0_pay40 (B.ap k0_pay48) (B.ap k0_pay61) (B.ap k0_pay62)
    (B.ap k0_pay63)) (ix3 r n d) = (B.row r).uk n d := by
  pointwise [k0_pay41, ow_eq, km_eq, ck_eq]
  rfl

/-- The value after the step. -/
theorem uv_eq : k0_pay42 (F := Ideal) (k0_pay6 (View.ld B.x0 r0_3) (View.ld B.x6 r0_4) (View.ld B.x7 r0_5)) (B.ap k0_pay49) B.x2
    (k0_pay37 (B.ap k0_pay61) (B.ap k0_pay62) (B.ap k0_pay63)) (B.ap k0_pay64) (ix3 r n d) = (B.row r).uv n d := by
  pointwise [k0_pay42, ow_eq, um_eq, im_eq, cv_eq, select_eq]
  rfl

/-- The protection after the step. -/
theorem up_eq : k0_pay43 (F := Ideal) (B.ap k0_pay44) (B.ap k0_pay49) (B.ap k0_pay64) (ix2 r n) = (B.row r).up n := by
  pointwise [k0_pay43, ow_eq, pr_eq, im_eq]
  rfl

/-- The packed result of a row: its protection, its mass written, then seven numbers and zeros. -/
def pack (R : Row) (k : Fin 640) : EReal :=
  if h : k.1 < 256 then R.up ⟨k.1, h⟩
  else if h : k.1 - 256 < 256 then R.ow ⟨k.1 - 256, h⟩
  else if k.1 = 512 then R.ws
  else if k.1 = 513 then R.mp
  else if k.1 = 514 then R.bs
  else if k.1 = 515 then Row.mean R.ow
  else if k.1 = 516 then Row.mean R.up
  else if k.1 = 517 then R.sim R.mi
  else 0

/-- The packed block the kernel stores holds, in column `k`, what `pack` says of the row. -/
theorem pk_eq (k : Fin 640) : k0_pay1 (F := Ideal) (B.ap k0_pay47) (B.ap k0_pay61) (k0_pay36 (B.ap k0_pay63)) (k0_pay38 (B.ap k0_pay48) (B.ap k0_pay61))
    (B.ap k0_pay64) (k0_pay43 (B.ap k0_pay44) (B.ap k0_pay49) (B.ap k0_pay64)) (ix2 r k) = pack (B.row r) k := by
  pointwise [k0_pay1, ow_eq, ms_eq, mp_eq, bs_eq, up_eq, ws_eq]
  have e : ∀ a (h : a < 1), (⟨a, h⟩ : Fin 1) = 0 := fun _ _ => Subsingleton.elim _ _
  simp only [e, ms_eq, mp_eq, bs_eq, ws_eq]
  unfold pack
  split_ifs <;> first | rfl | (exfalso; omega)

end Cert.Proof.Blk

end
-- ==== Proof.Arrays.lean ====
/- The kernel's three result arrays after the run. Hand-written, untrusted. -/
module

public import proofs.«01_k».proof.Proof.Args
public import proofs.«01_k».proof.Proof.Block2
public import proofs.«01_k».proof.Proof.Gen.KernelIdeal.Run
public import Idealize.ShloMosaic.Lib.Pipeline.ValueKit

@[expose] public section

set_option maxRecDepth 16384

noncomputable section

namespace Cert.Proof

open Idealize.ShloMosaic Cert.KernelIdeal Cert.KernelIdeal.Gen
open Idealize.ShloMosaic.TcCoe

variable (m : (ℓ : Loc nD τ sig) → Buf (Elt Ideal) ℓ) (c : Dev nD)

/-- Device `c`'s arguments. -/
def kargs : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)
  x16 := m ((c.tc : Thread nD τ).loc main_arg16)
  x17 := m ((c.tc : Thread nD τ).loc main_arg17)
  x18 := m ((c.tc : Thread nD τ).loc main_arg18)
  x19 := m ((c.tc : Thread nD τ).loc main_arg19)
  x20 := m ((c.tc : Thread nD τ).loc main_arg20)
  x21 := m ((c.tc : Thread nD τ).loc main_arg21)

/-- The blocks that grid point `t` reads. -/
def blks (t : Fin cfg0.N) : Blk where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t

/-- At step `t` the window of the hidden rows is block `t` of the batch. -/
theorem idx0 : ∀ t : Fin grid0.N, win0_0.index t = ![t.val, 0] := by decide +kernel
/-- At step `t` the window of the keys is block `t` of the batch. -/
theorem idx1 : ∀ t : Fin grid0.N, win0_1.index t = ![t.val, 0, 0] := by decide +kernel
/-- At step `t` the window of the values is block `t` of the batch. -/
theorem idx2 : ∀ t : Fin grid0.N, win0_2.index t = ![t.val, 0, 0] := by decide +kernel
/-- At step `t` the window of the protection, usage and age side by side is block `t` of the batch. -/
theorem idx3 : ∀ t : Fin grid0.N, win0_3.index t = ![t.val, 0] := by decide +kernel

/-- The window of the key weights never moves. -/
theorem idx4 : ∀ t : Fin grid0.N, win0_4.index t = ![0, 0] := by decide +kernel
/-- The window of the key biases never moves. -/
theorem idx5 : ∀ t : Fin grid0.N, win0_5.index t = ![0] := by decide +kernel
/-- The window of the value weights never moves. -/
theorem idx6 : ∀ t : Fin grid0.N, win0_6.index t = ![0, 0] := by decide +kernel
/-- The window of the value biases never moves. -/
theorem idx7 : ∀ t : Fin grid0.N, win0_7.index t = ![0] := by decide +kernel
/-- The window of the gate weights never moves. -/
theorem idx8 : ∀ t : Fin grid0.N, win0_8.index t = ![0, 0] := by decide +kernel
/-- The window of the gate biases never moves. -/
theorem idx9 : ∀ t : Fin grid0.N, win0_9.index t = ![0, 0] := by decide +kernel
/-- The window of the slot weights never moves. -/
theorem idx10 : ∀ t : Fin grid0.N, win0_10.index t = ![0, 0] := by decide +kernel
/-- The window of the slot biases never moves. -/
theorem idx11 : ∀ t : Fin grid0.N, win0_11.index t = ![0, 0] := by decide +kernel
/-- At step `t` the window of the updated keys is block `t` of the batch. -/
theorem idx12 : ∀ t : Fin grid0.N, win0_12.index t = ![t.val, 0, 0] := by decide +kernel
/-- At step `t` the window of the updated values is block `t` of the batch. -/
theorem idx13 : ∀ t : Fin grid0.N, win0_13.index t = ![t.val, 0, 0] := by decide +kernel
/-- At step `t` the window of the packed results is block `t` of the batch. -/
theorem idx14 : ∀ t : Fin grid0.N, win0_14.index t = ![t.val, 0] := by decide +kernel

/-- The four gate weights, stacked before the region. -/
theorem entry_v0 : V m c main_v0 = concatenate S4x128 0 [⟨S1x128, (kargs m c).x10⟩, ⟨S1x128, (kargs m c).x12⟩,
    ⟨S1x128, (kargs m c).x14⟩, ⟨S1x128, (kargs m c).x16⟩] concatenates_S1x128_S1x128_S1x128_S1x128_S4x128_d0 := by
  simp only [V, V0, hostOps0, List.flatten_cons, List.flatten_nil, List.append_nil, List.cons_append, List.nil_append]
  after_results <;> rfl

/-- The four gate biases, stacked before the region. -/
theorem entry_v5 : V m c main_v5 = concatenate S4x1 0 [⟨S1x1, broadcastInDim S1x1 ![1] bcast_S1_S1x1_1 (kargs m c).x11⟩,
    ⟨S1x1, broadcastInDim S1x1 ![1] bcast_S1_S1x1_1 (kargs m c).x13⟩,
    ⟨S1x1, broadcastInDim S1x1 ![1] bcast_S1_S1x1_1 (kargs m c).x15⟩,
    ⟨S1x1, broadcastInDim S1x1 ![1] bcast_S1_S1x1_1 (kargs m c).x17⟩] concatenates_S1x1_S1x1_S1x1_S1x1_S4x1_d0 := by
  simp only [V, V0, hostOps0, List.flatten_cons, List.flatten_nil, List.append_nil, List.cons_append, List.nil_append]
  after_results <;> rfl

/-- The two slot weights, stacked before the region. -/
theorem entry_v6 : V m c main_v6 = concatenate S2x128 0 [⟨S1x128, (kargs m c).x18⟩, ⟨S1x128, (kargs m c).x20⟩]
    concatenates_S1x128_S1x128_S2x128_d0 := by
  simp only [V, V0, hostOps0, List.flatten_cons, List.flatten_nil, List.append_nil, List.cons_append, List.nil_append]
  after_results <;> rfl

/-- The two slot biases, stacked before the region. -/
theorem entry_v9 : V m c main_v9 = concatenate S2x1 0 [⟨S1x1, broadcastInDim S1x1 ![1] bcast_S1_S1x1_1 (kargs m c).x19⟩,
    ⟨S1x1, broadcastInDim S1x1 ![1] bcast_S1_S1x1_1 (kargs m c).x21⟩] concatenates_S1x1_S1x1_S2x1_d0 := by
  simp only [V, V0, hostOps0, List.flatten_cons, List.flatten_nil, List.append_nil, List.cons_append, List.nil_append]
  after_results <;> rfl

/-- Protection, usage and age, side by side before the region. -/
theorem entry_v10 : V m c main_v10 = concatenate S1024x768 1 [⟨S1024x256, (kargs m c).x3⟩, ⟨S1024x256, (kargs m c).x4⟩,
    ⟨S1024x256, (kargs m c).x5⟩] concatenates_S1024x256_S1024x256_S1024x256_S1024x768_d1 := by
  simp only [V, V0, hostOps0, List.flatten_cons, List.flatten_nil, List.append_nil, List.cons_append, List.nil_append]
  after_results <;> rfl

/-- A row of a block lies inside the batch. -/
theorem lt_row (t : Fin cfg0.N) (r : Fin 32) : t.val * 32 + r.val < 1024 := by
  have : t.val < 32 := t.isLt
  omega

/-- The batch row that row `r` of grid point `t`'s blocks is. -/
def brow (t : Fin cfg0.N) (r : Fin 32) : Fin 1024 := ⟨t.val * 32 + r.val, lt_row t r⟩

/-- At step `t` the block of the hidden rows holds the rows of batch block `t`. -/
theorem blk0 (t : Fin cfg0.N) (r : Fin 32) (k : Fin 128) : iblk m c 0 t (ix2 r k) = (kargs m c).x0 (ix2 (brow t r) k) := by
  unfold kargs brow; blk_point [iblk, V, idx0 t]
/-- At step `t` the block of the keys holds the rows of batch block `t`. -/
theorem blk1 (t : Fin cfg0.N) (r : Fin 32) (n : Fin 256) (k : Fin 128) :
    iblk m c 1 t (ix3 r n k) = (kargs m c).x1 (ix3 (brow t r) n k) := by
  unfold kargs brow; blk_point [iblk, V, idx1 t]
/-- At step `t` the block of the values holds the rows of batch block `t`. -/
theorem blk2 (t : Fin cfg0.N) (r : Fin 32) (n : Fin 256) (k : Fin 128) :
    iblk m c 2 t (ix3 r n k) = (kargs m c).x2 (ix3 (brow t r) n k) := by
  unfold kargs brow; blk_point [iblk, V, idx2 t]
/-- At step `t` the block of the protection, usage and age side by side holds the rows of batch block `t`. -/
theorem blk3 (t : Fin cfg0.N) (r : Fin 32) (k : Fin 768) :
    iblk m c 3 t (ix2 r k) = V m c main_v10 (ix2 (brow t r) k) := by
  unfold brow
  refine congrArg (V m c main_v10) ?_
  blk_ext [idx3 t]
/-- At every step the block of the key weights is the whole array. -/
theorem blk4 (t : Fin cfg0.N) : iblk m c 4 t = (kargs m c).x6 := by
  funext i; unfold kargs; blk_point [iblk, V, idx4 t]
/-- At every step the block of the key biases is the whole array. -/
theorem blk5 (t : Fin cfg0.N) : iblk m c 5 t = (kargs m c).x7 := by
  funext i; unfold kargs; blk_point [iblk, V, idx5 t]
/-- At every step the block of the value weights is the whole array. -/
theorem blk6 (t : Fin cfg0.N) : iblk m c 6 t = (kargs m c).x8 := by
  funext i; unfold kargs; blk_point [iblk, V, idx6 t]
/-- At every step the block of the value biases is the whole array. -/
theorem blk7 (t : Fin cfg0.N) : iblk m c 7 t = (kargs m c).x9 := by
  funext i; unfold kargs; blk_point [iblk, V, idx7 t]
/-- At every step the block of the gate weights is the whole array. -/
theorem blk8 (t : Fin cfg0.N) : iblk m c 8 t = V m c main_v0 := by
  funext i; refine congrArg (V m c main_v0) ?_; blk_ext [idx8 t]
/-- At every step the block of the gate biases is the whole array. -/
theorem blk9 (t : Fin cfg0.N) : iblk m c 9 t = V m c main_v5 := by
  funext i; refine congrArg (V m c main_v5) ?_; blk_ext [idx9 t]
/-- At every step the block of the slot weights is the whole array. -/
theorem blk10 (t : Fin cfg0.N) : iblk m c 10 t = V m c main_v6 := by
  funext i; refine congrArg (V m c main_v6) ?_; blk_ext [idx10 t]
/-- At every step the block of the slot biases is the whole array. -/
theorem blk11 (t : Fin cfg0.N) : iblk m c 11 t = V m c main_v9 := by
  funext i; refine congrArg (V m c main_v9) ?_; blk_ext [idx11 t]

/-! ## The stacked buffers, piece by piece -/

/-- Columns 0 to 255 of the joined array hold the protection. -/
theorem v10_0 (b : Fin 1024) (n : Fin 256) : V m c main_v10 (ix2 b ⟨n.1, by omega⟩) = (kargs m c).x3 (ix2 b n) := by
  rw [entry_v10]; pointwise
/-- Columns 256 to 511 of the joined array hold the usage. -/
theorem v10_1 (b : Fin 1024) (n : Fin 256) : V m c main_v10 (ix2 b ⟨256 + n.1, by omega⟩) = (kargs m c).x4 (ix2 b n) := by
  rw [entry_v10]; pointwise
/-- Columns 512 to 767 of the joined array hold the age. -/
theorem v10_2 (b : Fin 1024) (n : Fin 256) : V m c main_v10 (ix2 b ⟨512 + n.1, by omega⟩) = (kargs m c).x5 (ix2 b n) := by
  rw [entry_v10]; pointwise
  rw [dif_neg (by omega), dif_neg (by omega)]
  exact congrArg (fun k => (kargs m c).x5 (ix2 b k)) (Fin.ext (show 512 + n.1 - 256 - 256 = n.1 by omega))
/-- Row 0 of the gate weights is the write gate's. -/
theorem v0_0 (k : Fin 128) : V m c main_v0 (ix2 0 k) = (kargs m c).x10 (ix2 0 k) := by rw [entry_v0]; pointwise
/-- Row 1 of the gate weights is the merge gate's. -/
theorem v0_1 (k : Fin 128) : V m c main_v0 (ix2 1 k) = (kargs m c).x12 (ix2 0 k) := by rw [entry_v0]; pointwise
/-- Row 2 of the gate weights is the binding gate's. -/
theorem v0_2 (k : Fin 128) : V m c main_v0 (ix2 2 k) = (kargs m c).x14 (ix2 0 k) := by rw [entry_v0]; pointwise
/-- Row 3 of the gate weights is the importance gate's. -/
theorem v0_3 (k : Fin 128) : V m c main_v0 (ix2 3 k) = (kargs m c).x16 (ix2 0 k) := by rw [entry_v0]; pointwise
/-- Entry 0 of the gate biases is the write gate's. -/
theorem v5_0 : V m c main_v5 (ix2 0 0) = (kargs m c).x11 (ix1 0) := by rw [entry_v5]; pointwise
/-- Entry 1 of the gate biases is the merge gate's. -/
theorem v5_1 : V m c main_v5 (ix2 1 0) = (kargs m c).x13 (ix1 0) := by rw [entry_v5]; pointwise
/-- Entry 2 of the gate biases is the binding gate's. -/
theorem v5_2 : V m c main_v5 (ix2 2 0) = (kargs m c).x15 (ix1 0) := by rw [entry_v5]; pointwise
/-- Entry 3 of the gate biases is the importance gate's. -/
theorem v5_3 : V m c main_v5 (ix2 3 0) = (kargs m c).x17 (ix1 0) := by rw [entry_v5]; pointwise
/-- Row 0 of the slot weights is the occupancy one. -/
theorem v6_0 (k : Fin 128) : V m c main_v6 (ix2 0 k) = (kargs m c).x18 (ix2 0 k) := by rw [entry_v6]; pointwise
/-- Row 1 of the slot weights is the protection one. -/
theorem v6_1 (k : Fin 128) : V m c main_v6 (ix2 1 k) = (kargs m c).x20 (ix2 0 k) := by rw [entry_v6]; pointwise
/-- Entry 0 of the slot biases is the occupancy one. -/
theorem v9_0 : V m c main_v9 (ix2 0 0) = (kargs m c).x19 (ix1 0) := by rw [entry_v9]; pointwise
/-- Entry 1 of the slot biases is the protection one. -/
theorem v9_1 : V m c main_v9 (ix2 1 0) = (kargs m c).x21 (ix1 0) := by rw [entry_v9]; pointwise

/-- Row `r` of grid point `t`'s blocks is batch row `32 t + r` of the arguments. -/
theorem row_blks (t : Fin cfg0.N) (r : Fin 32) : (blks m c t).row r = (kargs m c).row (brow t r) := by
  simp only [Blk.row, Args.row, blks, blk0, blk1, blk2, blk3, blk4, blk5, blk6, blk7, blk8, blk9, blk10, blk11]
  rw [Row.mk.injEq]
  exact ⟨rfl, rfl, rfl, funext fun n => v10_0 m c _ n, funext fun n => v10_1 m c _ n, funext fun n => v10_2 m c _ n,
    rfl, rfl, rfl, rfl, funext fun k => v0_0 m c k, v5_0 m c, funext fun k => v0_1 m c k, v5_1 m c,
    funext fun k => v0_2 m c k, v5_2 m c, funext fun k => v0_3 m c k, v5_3 m c,
    funext fun k => v6_0 m c k, v9_0 m c, funext fun k => v6_1 m c k, v9_1 m c⟩

/-- The updated keys of a block. -/
theorem out12_at (B : Blk) (r : Fin 32) (n : Fin 256) (d : Fin 128) :
    B.ap (out0_12 (F := Ideal)) (ix3 r n d) = (B.row r).uk n d := by
  simp only [Blk.ap, out0_12]
  rw [View.canon_unit_zero (by decide), View.ld_unit_zero (by decide)]
  exact Blk.uk_eq B r n d

/-- The updated values of a block. -/
theorem out13_at (B : Blk) (r : Fin 32) (n : Fin 256) (d : Fin 128) :
    B.ap (out0_13 (F := Ideal)) (ix3 r n d) = (B.row r).uv n d := by
  simp only [Blk.ap, out0_13]
  rw [View.canon_unit_zero (by decide), View.ld_unit_zero (off := ![0, 0, 0]) (by decide) _ B.x2]
  exact Blk.uv_eq B r n d

/-- The packed per-slot and per-row results of a block. -/
theorem out14_at (B : Blk) (r : Fin 32) (k : Fin 640) :
    B.ap (out0_14 (F := Ideal)) (ix2 r k) = Blk.pack (B.row r) k := by
  simp only [Blk.ap, out0_14]
  rw [View.canon_unit_zero (by decide)]
  exact Blk.pk_eq B r k

/-- The updated keys, array-wide. -/
theorem keys : Value.reg_main_v11_0 m c = fun i => ((kargs m c).row (i 0)).uk (i 1) (i 2) := by
  refine (dats m 0 c).arrAt_eq_of_covers 12 _ (by decide +kernel) fun t hf y => ?_
  blk_simp
  rw [after0_12]
  idx_vars y
  have h : ((View.whole main_v11_0).slice (win0_12.rect t)).emb (ix3 y0 y1 y2) = ix3 (brow t y0) y1 y2 := by
    unfold brow; blk_ext [idx12 t]
  rw [h]
  have e := out12_at (blks m c t) y0 y1 y2
  rw [row_blks] at e
  simp only [Blk.ap, blks] at e
  show _ = ((kargs m c).row (brow t y0)).uk y1 y2
  rw [← e]

/-- The updated values, array-wide. -/
theorem values : Value.reg_main_v11_1 m c = fun i => ((kargs m c).row (i 0)).uv (i 1) (i 2) := by
  refine (dats m 0 c).arrAt_eq_of_covers 13 _ (by decide +kernel) fun t hf y => ?_
  blk_simp
  rw [after0_13]
  idx_vars y
  have h : ((View.whole main_v11_1).slice (win0_13.rect t)).emb (ix3 y0 y1 y2) = ix3 (brow t y0) y1 y2 := by
    unfold brow; blk_ext [idx13 t]
  rw [h]
  have e := out13_at (blks m c t) y0 y1 y2
  rw [row_blks] at e
  simp only [Blk.ap, blks] at e
  show _ = ((kargs m c).row (brow t y0)).uv y1 y2
  rw [← e]

/-- The packed per-slot and per-row results, array-wide. -/
theorem packed : Value.reg_main_v11_2 m c = fun i => Blk.pack ((kargs m c).row (i 0)) (i 1) := by
  refine (dats m 0 c).arrAt_eq_of_covers 14 _ (by decide +kernel) fun t hf y => ?_
  blk_simp
  rw [after0_14]
  idx_vars y
  have h : ((View.whole main_v11_2).slice (win0_14.rect t)).emb (ix2 y0 y1) = ix2 (brow t y0) y1 := by
    unfold brow; blk_ext [idx14 t]
  rw [h]
  have e := out14_at (blks m c t) y0 y1
  rw [row_blks] at e
  simp only [Blk.ap, blks] at e
  show _ = Blk.pack ((kargs m c).row (brow t y0)) y1
  rw [← e]

end Cert.Proof

end
-- ==== Proof.Ref1.lean ====
/- The reference's layers, similarities and scores, row by row. Hand-written, untrusted. -/
module

public import proofs.«01_k».proof.Proof.Args
public import proofs.«01_k».proof.Proof.Gen.ReferenceIdeal.Read
public import Idealize.ShloMosaic.Lib.Pointwise

@[expose] public section

set_option maxRecDepth 16384

noncomputable section

namespace Cert.Proof.Ref

open Idealize.ShloMosaic Cert.ReferenceIdeal Cert.ReferenceIdeal.Gen Cert.ReferenceIdeal.Read

variable (A : Args) (b : Fin 1024) (n : Fin 256) (d : Fin 128)

/-- The candidate key. -/
theorem ck_at : val_main_v5 (F := Ideal) A.x0 A.x6 A.x7 (ix2 b d) = (A.row b).ck d := by
  pointwise [val_main_v0, val_main_v1, val_main_v2, val_main_v3, val_main_v4, val_main_v5, Row.ck, lin, Args.row]

/-- The write strength. -/
theorem ws_at : val_main_v22 (F := Ideal) A.x0 A.x10 A.x11 (ix2 b 0) = (A.row b).ws := by
  pointwise [val_main_v12, val_main_v13, val_main_v14, val_main_v15, val_main_v16, val_main_v17, val_main_v18, val_main_v19, val_main_v20, val_main_v21, val_main_v22, val_main_cst, val_main_cst_0, Row.ws, lin, Args.row, Ideal.logistic]

/-- The unit candidate key. -/
theorem nc_at : val_main_v38 (F := Ideal) A.x0 A.x6 A.x7 (ix2 b d) = (A.row b).nc d := by
  pointwise [val_main_v34, val_main_v35, val_main_v36, val_main_v37, val_main_v38, val_main_call0_v0, val_main_call0_v1, val_main_call0_v2, val_main_call0_cst, val_main_cst_3, ck_at, Row.nc, len]

/-- The unit slot key. -/
theorem nk_at : val_main_v43 (F := Ideal) A.x1 (ix3 b n d) = (A.row b).nk n d := by
  pointwise [val_main_v39, val_main_v40, val_main_v41, val_main_v42, val_main_v43, val_main_call1_v0, val_main_call1_v1, val_main_call1_v2, val_main_call1_cst, val_main_cst_4, Row.nk, len, Args.row]

/-- The similarity. -/
theorem sim_at : val_main_v44 (F := Ideal) A.x0 A.x1 A.x6 A.x7 (ix2 b n) = (A.row b).sim n := by
  pointwise [val_main_v44, nc_at, nk_at, Row.sim]

/-- The candidate value. -/
theorem cv_at : val_main_v11 (F := Ideal) A.x0 A.x8 A.x9 (ix2 b d) = (A.row b).cv d := by
  pointwise [val_main_v6, val_main_v7, val_main_v8, val_main_v9, val_main_v10, val_main_v11, Row.cv, lin, Args.row]

/-- The importance. -/
theorem im_at : val_main_v33 (F := Ideal) A.x0 A.x16 A.x17 (ix2 b 0) = (A.row b).im := by
  pointwise [val_main_v23, val_main_v24, val_main_v25, val_main_v26, val_main_v27, val_main_v28, val_main_v29, val_main_v30, val_main_v31, val_main_v32, val_main_v33, val_main_cst_1, val_main_cst_2, Row.im, lin, Args.row, Ideal.logistic]

/-- The occupancy by length. -/
theorem nocc_at : val_main_v48 (F := Ideal) A.x2 (ix2 b n) = (A.row b).nocc n := by
  pointwise [val_main_v45, val_main_v46, val_main_v47, val_main_v48, val_main_call2_v0, val_main_call2_v1, val_main_call2_cst, val_main_call3_v0, val_main_call3_v1, val_main_call3_v2, val_main_call3_v3, val_main_call3_v4, val_main_cst_5, val_main_cst_6, val_main_cst_7, Row.nocc, clip, id_eq, Args.row]

/-- The occupancy. -/
theorem occ_at : val_main_v66 (F := Ideal) A.x2 A.x18 A.x19 (ix2 b n) = (A.row b).occ n := by
  pointwise [val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_call4_v0, val_main_call4_v1, val_main_call4_v2, val_main_call4_v3, val_main_call4_v4, val_main_cst_8, val_main_cst_9, val_main_cst_10, val_main_cst_11, val_main_cst_12, val_main_cst_13, nocc_at, Row.occ, clip, id_eq, lin, Args.row, Ideal.logistic]

/-- The effective protection. -/
theorem ep_at : val_main_v84 (F := Ideal) A.x2 A.x3 A.x20 A.x21 (ix2 b n) = (A.row b).ep n := by
  pointwise [val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_call5_v0, val_main_call5_v1, val_main_call5_v2, val_main_call5_v3, val_main_call5_v4, val_main_cst_14, val_main_cst_15, val_main_cst_16, val_main_cst_17, val_main_cst_18, val_main_cst_19, Row.ep, clip, id_eq, lin, Args.row, Ideal.logistic]

/-- The effective usage. -/
theorem eu_at : val_main_v90 (F := Ideal) A.x2 A.x4 A.x18 A.x19 (ix2 b n) = (A.row b).eu n := by
  pointwise [val_main_v85, val_main_v86, val_main_v87, val_main_v88, val_main_v89, val_main_v90, val_main_call6_v0, val_main_call6_v1, val_main_call6_v2, val_main_call6_v3, val_main_call6_v4, val_main_cst_20, val_main_cst_21, val_main_cst_22, val_main_cst_23, occ_at, Row.eu, clip, id_eq, Args.row]

/-- The effective age. -/
theorem ea_at : val_main_v91 (F := Ideal) A.x5 (ix2 b n) = (A.row b).ea n := by
  pointwise [val_main_v91, val_main_call7_v0, val_main_call7_v1, val_main_call7_v2, val_main_call7_v3, val_main_call7_v4, val_main_cst_24, val_main_cst_25, Row.ea, clip, id_eq, Args.row]

/-- The similarity over the temperature. -/
theorem simT_at : val_main_v93 (F := Ideal) A.x0 A.x1 A.x6 A.x7 (ix2 b n) = (A.row b).simT n := by
  pointwise [val_main_v92, val_main_v93, val_main_cst_26, sim_at, Row.simT]

/-- The replacement score over the temperature. -/
theorem rsT_at : val_main_v128 (F := Ideal) A.x0 A.x1 A.x2 A.x3 A.x4 A.x5 A.x6 A.x7 A.x18 A.x19 A.x20 A.x21 (ix2 b n) = (A.row b).rsT n := by
  pointwise [val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_cst_30, val_main_cst_31, val_main_cst_32, val_main_cst_33, val_main_cst_34, val_main_cst_35, val_main_cst_36, val_main_cst_37, val_main_cst_38, val_main_cst_39, sim_at, occ_at, ep_at, ea_at, eu_at, Row.rsT, Row.rs]

end Cert.Proof.Ref

end
-- ==== Proof.Take.lean ====
/- The reference's take along an axis and its greatest-first selection, read at an index. Hand-written, untrusted. -/
module

public import proofs.«01_k».proof.Proof.Args
public import proofs.«01_k».proof.Proof.Arg
public import proofs.«01_k».proof.Proof.Gen.ReferenceIdeal.Read
public import Idealize.ShloMosaic.Lib.Pointwise

@[expose] public section

set_option maxRecDepth 16384

noncomputable section

namespace Cert.Proof.Ref

open Idealize.ShloMosaic Cert.ReferenceIdeal Cert.ReferenceIdeal.Gen Cert.ReferenceIdeal.Read

/-- A gather of one element per batch row reads the element that the row's index names. -/
theorem gather_at (x : Arr S1024x256) (i : IVec S1024x1x1 32) (b : Fin 1024) (j : Fin 256)
    (h : i (ix3 b 0 0) = BitVec.ofNat 32 j.1) :
    Host.gather gather_S1024x256_S1024x1x1_S1024x1_n_1_0_0_1_2_11 x i (ix2 b 0) = x (ix2 b j) := by
  unfold Host.gather
  refine congrArg x ?_
  funext a
  refine Fin.ext ?_
  show GatherDims.start _ (ix2 b 0) i a + GatherDims.batchCoord _ (ix2 b 0) a + GatherDims.offCoord _ (ix2 b 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S1024x256_S1024x1x1_S1024x1_n_1_0_0_1_2_11.operandBatchingDims from
      List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x256_S1024x1x1_S1024x1_n_1_0_0_1_2_11.startIndexMap from
      List.mem_singleton.mpr rfl)]
    have hsi : gather_S1024x256_S1024x1x1_S1024x1_n_1_0_0_1_2_11.siIdx (ix2 b 0)
        ⟨List.idxOf (1 : Fin 2) gather_S1024x256_S1024x1x1_S1024x1_n_1_0_0_1_2_11.startIndexMap,
        List.idxOf_lt_length_iff.2 (List.mem_singleton.mpr rfl)⟩ = ix3 b 0 0 := by
      funext b; refine Fin.ext ?_
      match b with
      | ⟨0, _⟩ => rfl
      | ⟨1, _⟩ => rfl
      | ⟨2, _⟩ => rfl
    rw [hsi, h]
    show min (BitVec.toInt _).toNat 255 = j.1
    rw [BitVec.toInt_eq_toNat_of_lt (by simp; omega)]
    simp
    omega

/-- The row's index as the gather reads it: wrapped when negative, with a unit axis added. -/
def wrap (i : IVec S1024x1 32) : IVec S1024x1x1 32 :=
  shapeCast _ (select (cmpi .slt i (broadcastInDim S1024x1 ![] bcast_S_S1024x1 (constantI S_ 32 0#32)))
    (addi i (broadcastInDim S1024x1 ![] bcast_S_S1024x1 (constantI S_ 32 256#32))) i) shapeCasts_S1024x1_S1024x1x1

/-- An index that is a slot's number is left as it is by the wrapping of negative ones. -/
theorem wrap_at (i : IVec S1024x1 32) (b : Fin 1024) (j : Fin 256) (h : i (ix2 b 0) = BitVec.ofNat 32 j.1) :
    wrap i (ix3 b 0 0) = BitVec.ofNat 32 j.1 := by
  pointwise [wrap]
  rw [h]
  exact (by decide +kernel : ∀ j : Fin 256, Scalar.select (IntOp.cmpi .slt (BitVec.ofNat 32 j.1) 0#32)
    (IntOp.addi (BitVec.ofNat 32 j.1) 256#32) (BitVec.ofNat 32 j.1) = BitVec.ofNat 32 j.1) j

/-- The test that the row's index is in range. -/
def inside (i : IVec S1024x1 32) : IVec S1024x1 1 :=
  Host.reduce IntOp.andi (andi (cmpi .sge (wrap i) (broadcastInDim S1024x1x1 ![] bcast_S_S1024x1x1 (constantI S_ 32 0#32)))
    (cmpi .sle (wrap i) (broadcastInDim S1024x1x1 ![0, 1, 2] bcast_S1x1x1_S1024x1x1_0_1_2
      (broadcastInDim S1x1x1 ![2] bcast_S1_S1x1x1_2 (constantI S1 32 255#32))))) (constantI S_ 1 1#1)
    reducesTo_S1024x1x1_S1024x1_d2 h_S_

/-- An index that is a slot's number passes the range check. -/
theorem inside_at (i : IVec S1024x1 32) (b : Fin 1024) (j : Fin 256) (h : i (ix2 b 0) = BitVec.ofNat 32 j.1) :
    inside i (ix2 b 0) = 1#1 := by
  have := wrap_at i b j h
  pointwise [inside]
  rw [Finset.univ_unique, Finset.fold_singleton]
  show IntOp.andi (IntOp.andi (IntOp.cmpi .sge (wrap i (ix3 b 0 0)) 0#32) (IntOp.cmpi .sle (wrap i (ix3 b 0 0)) 255#32)) 1#1 = 1#1
  rw [this]
  exact (by decide +kernel : ∀ j : Fin 256, IntOp.andi (IntOp.andi (IntOp.cmpi .sge (BitVec.ofNat 32 j.1) 0#32)
    (IntOp.cmpi .sle (BitVec.ofNat 32 j.1) 255#32)) 1#1 = 1#1) j

/-- The take along the slot axis at one index per row. -/
def take (i : IVec S1024x1 32) (x : Arr S1024x256) : Arr S1024x1 :=
  select (inside i) (Host.gather gather_S1024x256_S1024x1x1_S1024x1_n_1_0_0_1_2_11 x (wrap i))
    (broadcastInDim S1024x1 ![] bcast_S_S1024x1 (constant (F := Ideal) S_ .f32 0x7FC00000#32 : Arr S_))

/-- Taking along the slots at an index that is slot `j`'s number gives the entry of slot `j`. -/
theorem take_at (i : IVec S1024x1 32) (x : Arr S1024x256) (b : Fin 1024) (j : Fin 256)
    (h : i (ix2 b 0) = BitVec.ofNat 32 j.1) : take i x (ix2 b 0) = x (ix2 b j) := by
  show Scalar.select (inside i (ix2 b 0)) _ _ = _
  rw [inside_at i b j h, gather_at x _ b j (wrap_at i b j h)]
  rfl

/-- The index of `(b, 0)`'s line at slot `k`. -/
theorem along_eq (b : Fin 1024) (k : Fin 256) :
    Shape.Idx.along (s := S1024x256) (ix2 b 0) 1 k = ix2 b k := by
  funext a
  match a with
  | ⟨0, _⟩ => rfl
  | ⟨1, _⟩ => rfl

/-- The greatest-first selection of one element per row names the first greatest. -/
theorem topK_at (x : Arr S1024x256) (b : Fin 1024) :
    (Host.topK S1024x1 1 (FloatOps.cmpfTotal (F := Ideal) (φ := .f32) .gt) x sliceFits_S1024x256_S1024x1).2 (ix2 b 0)
      = BitVec.ofNat 32 (first fun n => x (ix2 b n)).1 := by
  unfold Host.topK Host.sort2
  pointwise
  have e := sortedFrom_zero (fun n => x (ix2 b n))
    (fun k k' => FloatOps.cmpfTotal (F := Ideal) (φ := .f32) .gt (x (Shape.Idx.along (s := S1024x256) (ix2 b 0) 1 k))
      (x (Shape.Idx.along (s := S1024x256) (ix2 b 0) 1 k')) == 1#1)
    (fun j k => by
      rw [along_eq, along_eq]
      show (BitVec.ofBool (decide (x (ix2 b k) < x (ix2 b j))) == 1#1) = true ↔ x (ix2 b k) < x (ix2 b j)
      by_cases h : x (ix2 b k) < x (ix2 b j) <;> simp [h]) 0 rfl
  generalize hs : sortedFrom _ _ = q at e ⊢
  rw [along_eq]
  exact congrArg (fun n : Fin 256 => BitVec.ofNat 32 n.1) e

end Cert.Proof.Ref

end
-- ==== Proof.Ref2.lean ====
/- The reference's slot choice, gates and results, row by row. Hand-written, untrusted. -/
module

public import proofs.«01_k».proof.Proof.Ref1
public import proofs.«01_k».proof.Proof.Take
public import proofs.«01_k».proof.Proof.Finite
public import proofs.«01_k».proof.Proof.Block2

@[expose] public section

set_option maxRecDepth 16384

noncomputable section

namespace Cert.Proof.Ref

open Idealize.ShloMosaic Cert.ReferenceIdeal Cert.ReferenceIdeal.Gen Cert.ReferenceIdeal.Read

variable (A : Args) (b : Fin 1024) (n : Fin 256) (d : Fin 128)

/-- The maximum with the starting value changes no maximum. -/
theorem max_top (x : Fin 256 → EReal) : max (lit 0xFF800000#32) (top x) = top x := by
  rw [lit_bot]; exact max_eq_right bot_le

/-- The softmax over the similarities. -/
theorem softM_at : val_main_v104 (F := Ideal) A.x0 A.x1 A.x6 A.x7 (ix2 b n) = soft (A.row b).simT n := by
  pointwise [val_main_v94, val_main_v95, val_main_v96, val_main_v97, val_main_v98, val_main_v99, val_main_v100, val_main_v101, val_main_v102, val_main_v103, val_main_v104, val_main_cst_27, val_main_cst_28, val_main_cst_29, simT_at]
  exact congrArg (fun t => Ideal.div (Ideal.exp ((A.row b).simT n - t))
    (∑ k, Ideal.exp ((A.row b).simT k - t))) (max_top (A.row b).simT)

/-- The softmax over the replacement scores. -/
theorem softR_at : val_main_v139 (F := Ideal) A.x0 A.x1 A.x2 A.x3 A.x4 A.x5 A.x6 A.x7 A.x18 A.x19 A.x20 A.x21 (ix2 b n) = soft (A.row b).rsT n := by
  pointwise [val_main_v129, val_main_v130, val_main_v131, val_main_v132, val_main_v133, val_main_v134, val_main_v135, val_main_v136, val_main_v137, val_main_v138, val_main_v139, val_main_cst_40, val_main_cst_41, val_main_cst_42, rsT_at]
  exact congrArg (fun t => Ideal.div (Ideal.exp ((A.row b).rsT n - t))
    (∑ k, Ideal.exp ((A.row b).rsT k - t))) (max_top (A.row b).rsT)

/-- The slot to merge into. -/
theorem mi_at : val_main_v140 (F := Ideal) A.x0 A.x1 A.x6 A.x7 (ix1 b) = BitVec.ofNat 32 (A.row b).mi.1 := by
  have e := topK_at (val_main_v104 (F := Ideal) A.x0 A.x1 A.x6 A.x7) b
  simp only [softM_at] at e
  rw [first_soft (fun j => (A.row b).isR_simT j)] at e
  pointwise [val_main_v140, val_main_indices]
  exact e

/-- The slot to replace. -/
theorem ri_at : val_main_v141 (F := Ideal) A.x0 A.x1 A.x2 A.x3 A.x4 A.x5 A.x6 A.x7 A.x18 A.x19 A.x20 A.x21 (ix1 b) = BitVec.ofNat 32 (A.row b).ri.1 := by
  have e := topK_at (val_main_v139 (F := Ideal) A.x0 A.x1 A.x2 A.x3 A.x4 A.x5 A.x6 A.x7 A.x18 A.x19 A.x20 A.x21) b
  simp only [softR_at] at e
  rw [first_soft (fun j => (A.row b).isR_rsT j)] at e
  pointwise [val_main_v141, val_main_indices_44]
  exact e

/-- The merge slot's index as a take reads it. -/
theorem mi_col : val_main_v142 (F := Ideal) A.x0 A.x1 A.x6 A.x7 (ix2 b 0) = BitVec.ofNat 32 (A.row b).mi.1 := by
  pointwise [val_main_v142, mi_at]

/-- The similarity of the merge slot. -/
theorem msim_at : val_main_v143 (F := Ideal) A.x0 A.x1 A.x6 A.x7 (ix2 b 0) = (A.row b).sim (A.row b).mi :=
  (take_at (val_main_v142 (F := Ideal) A.x0 A.x1 A.x6 A.x7) (val_main_v44 (F := Ideal) A.x0 A.x1 A.x6 A.x7) b _ (mi_col A b)).trans (sim_at ..)

/-- The occupancy of the merge slot. -/
theorem mocc_at : val_main_v145 (F := Ideal) A.x0 A.x1 A.x2 A.x6 A.x7 A.x18 A.x19 (ix2 b 0) = (A.row b).occ (A.row b).mi :=
  (take_at (val_main_v142 (F := Ideal) A.x0 A.x1 A.x6 A.x7) (val_main_v66 (F := Ideal) A.x2 A.x18 A.x19) b _ (mi_col A b)).trans (occ_at ..)

/-- The usage of the merge slot. -/
theorem meu_at : val_main_v147 (F := Ideal) A.x0 A.x1 A.x2 A.x4 A.x6 A.x7 A.x18 A.x19 (ix2 b 0) = (A.row b).eu (A.row b).mi :=
  (take_at (val_main_v142 (F := Ideal) A.x0 A.x1 A.x6 A.x7) (val_main_v90 (F := Ideal) A.x2 A.x4 A.x18 A.x19) b _ (mi_col A b)).trans (eu_at ..)

/-- The age of the merge slot. -/
theorem mea_at : val_main_v149 (F := Ideal) A.x0 A.x1 A.x5 A.x6 A.x7 (ix2 b 0) = (A.row b).ea (A.row b).mi :=
  (take_at (val_main_v142 (F := Ideal) A.x0 A.x1 A.x6 A.x7) (val_main_v91 (F := Ideal) A.x5) b _ (mi_col A b)).trans (ea_at ..)

/-- The merge preference. -/
theorem mp_at : val_main_v176 (F := Ideal) A.x0 A.x1 A.x2 A.x4 A.x5 A.x6 A.x7 A.x12 A.x13 A.x18 A.x19 (ix2 b 0) = (A.row b).mp := by
  pointwise [val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_cst_45, val_main_cst_46, val_main_cst_47, val_main_cst_48, val_main_cst_49, val_main_cst_50, val_main_cst_51, val_main_cst_52, msim_at, mocc_at, meu_at, mea_at, Row.mp, lin, Ideal.logistic]
  rfl

/-- Whether the row merges. -/
theorem um_at : val_main_v186 (F := Ideal) A.x0 A.x1 A.x2 A.x4 A.x5 A.x6 A.x7 A.x12 A.x13 A.x18 A.x19 (ix1 b) = (A.row b).um := by
  pointwise [val_main_v177, val_main_v178, val_main_v179, val_main_v180, val_main_v181, val_main_v182, val_main_v183, val_main_v184, val_main_v185, val_main_v186, val_main_cst_53, val_main_cst_54, val_main_cst_55, msim_at, mocc_at, mp_at, Row.um]
  rfl

/-- The slot written. -/
theorem ti_at : val_main_v187 (F := Ideal) A.x0 A.x1 A.x2 A.x3 A.x4 A.x5 A.x6 A.x7 A.x12 A.x13 A.x18 A.x19 A.x20 A.x21 (ix1 b) = BitVec.ofNat 32 (A.row b).ti.1 := by
  pointwise [val_main_v187, um_at, mi_at, ri_at]
  rw [Blk.select_eq, Row.ti]
  split <;> rfl

/-- A position's word compared with another's, as a float: one where they agree, zero elsewhere. -/
theorem bit_hot (j i : Fin 256) :
    FloatOps.uitofp (F := Ideal) .f32 (IntOp.cmpi .eq (BitVec.ofNat 32 j.1) (BitVec.ofNat 32 i.1))
      = if j = i then (1 : EReal) else 0 := by
  rw [← hot]
  show (((IntOp.cmpi .eq (BitVec.ofNat 32 j.1) (BitVec.ofNat 32 i.1)).toNat : ℝ) : EReal)
    = (((BitVec.setWidth 32 (IntOp.cmpi .eq (BitVec.ofNat 32 j.1) (BitVec.ofNat 32 i.1))).toInt : ℝ) : EReal)
  have h : ∀ x : BitVec 1, ((x.setWidth 32).toInt) = (x.toNat : Int) := by decide
  rw [h]
  simp

/-- The indicator of the slot written. -/
theorem oh_at : val_main_v188 (F := Ideal) A.x0 A.x1 A.x2 A.x3 A.x4 A.x5 A.x6 A.x7 A.x12 A.x13 A.x18 A.x19 A.x20 A.x21 (ix2 b n) = (A.row b).oh n := by
  pointwise [val_main_v188, val_main_call13_v0, val_main_call13_v1, val_main_call13_v2, val_main_call13_v3, val_main_call13_v4, ti_at]
  exact (bit_hot (A.row b).ti n).trans (if_congr eq_comm rfl rfl)

/-- The binding strength. -/
theorem bs_at : val_main_v202 (F := Ideal) A.x0 A.x1 A.x6 A.x7 A.x14 A.x15 (ix2 b 0) = (A.row b).bs := by
  pointwise [val_main_v189, val_main_v190, val_main_v191, val_main_v192, val_main_v193, val_main_v194, val_main_v195, val_main_v196, val_main_v197, val_main_v198, val_main_v199, val_main_v200, val_main_v201, val_main_v202, val_main_cst_56, val_main_cst_57, val_main_cst_58, msim_at, Row.bs, lin, Ideal.logistic]
  rfl

/-- The conflict. -/
theorem cf_at : val_main_v205 (F := Ideal) A.x0 A.x1 A.x6 A.x7 (ix2 b n) = (A.row b).cf n := by
  pointwise [val_main_v203, val_main_v204, val_main_v205, val_main_call14_v0, val_main_call14_v1, val_main_call14_v2, val_main_call14_v3, val_main_call14_v4, val_main_cst_59, val_main_cst_60, val_main_cst_61, sim_at, Row.cf, clip, id_eq]

/-- The mass written into a slot. -/
theorem ow_at : val_main_v217 (F := Ideal) A.x0 A.x1 A.x2 A.x3 A.x4 A.x5 A.x6 A.x7 A.x10 A.x11 A.x12 A.x13 A.x18 A.x19 A.x20 A.x21 (ix2 b n) = (A.row b).ow n := by
  pointwise [val_main_v206, val_main_v207, val_main_v208, val_main_v209, val_main_v210, val_main_v211, val_main_v212, val_main_v213, val_main_v214, val_main_v215, val_main_v216, val_main_v217, val_main_cst_62, val_main_cst_63, val_main_cst_64, val_main_cst_65, ws_at, oh_at, ep_at, cf_at, Row.ow]

/-- How much of the key is written. -/
theorem km_at : val_main_v228 (F := Ideal) A.x0 A.x1 A.x2 A.x4 A.x5 A.x6 A.x7 A.x12 A.x13 A.x14 A.x15 A.x18 A.x19 (ix2 b 0) = (A.row b).km := by
  pointwise [val_main_v219, val_main_v220, val_main_v221, val_main_v222, val_main_v223, val_main_v224, val_main_v225, val_main_v226, val_main_v227, val_main_v228, val_main_cst_66, val_main_cst_67, val_main_cst_68, val_main_cst_69, um_at, bs_at]
  exact Blk.select_eq _ _ _

/-- How much of the value is written. -/
theorem vm_at : val_main_v239 (F := Ideal) A.x0 A.x1 A.x2 A.x4 A.x5 A.x6 A.x7 A.x12 A.x13 A.x16 A.x17 A.x18 A.x19 (ix2 b 0) = (A.row b).vm := by
  pointwise [val_main_v230, val_main_v231, val_main_v232, val_main_v233, val_main_v234, val_main_v235, val_main_v236, val_main_v237, val_main_v238, val_main_v239, val_main_cst_70, val_main_cst_71, val_main_cst_72, val_main_cst_73, um_at, im_at]
  exact Blk.select_eq _ _ _

/-- The updated key. -/
theorem uk_at : val_main_v248 (F := Ideal) A.x0 A.x1 A.x2 A.x3 A.x4 A.x5 A.x6 A.x7 A.x10 A.x11 A.x12 A.x13 A.x14 A.x15 A.x18 A.x19 A.x20 A.x21 (ix3 b n d) = (A.row b).uk n d := by
  pointwise [val_main_v218, val_main_v229, val_main_v241, val_main_v242, val_main_v243, val_main_v244, val_main_v245, val_main_v246, val_main_v247, val_main_v248, ow_at, km_at, ck_at, Row.uk]
  rfl

/-- The updated value. -/
theorem uv_at : val_main_v256 (F := Ideal) A.x0 A.x1 A.x2 A.x3 A.x4 A.x5 A.x6 A.x7 A.x8 A.x9 A.x10 A.x11 A.x12 A.x13 A.x16 A.x17 A.x18 A.x19 A.x20 A.x21 (ix3 b n d) = (A.row b).uv n d := by
  pointwise [val_main_v218, val_main_v240, val_main_v249, val_main_v250, val_main_v251, val_main_v252, val_main_v253, val_main_v254, val_main_v255, val_main_v256, ow_at, vm_at, cv_at, Row.uv]
  rfl

/-- The updated protection. -/
theorem up_at : val_main_v266 (F := Ideal) A.x0 A.x1 A.x2 A.x3 A.x4 A.x5 A.x6 A.x7 A.x10 A.x11 A.x12 A.x13 A.x16 A.x17 A.x18 A.x19 A.x20 A.x21 (ix2 b n) = (A.row b).up n := by
  pointwise [val_main_v257, val_main_v258, val_main_v259, val_main_v260, val_main_v261, val_main_v262, val_main_v263, val_main_v264, val_main_v265, val_main_v266, val_main_call17_v0, val_main_call17_v1, val_main_call17_v2, val_main_call17_v3, val_main_call17_v4, val_main_cst_74, val_main_cst_75, val_main_cst_76, val_main_cst_77, val_main_cst_78, ow_at, im_at, Row.up, clip, id_eq]
  rfl

/-- The mean mass written. -/
theorem mean_ow_at : val_main_v272 (F := Ideal) A.x0 A.x1 A.x2 A.x3 A.x4 A.x5 A.x6 A.x7 A.x10 A.x11 A.x12 A.x13 A.x18 A.x19 A.x20 A.x21 (ix1 b) = Row.mean (A.row b).ow := by
  pointwise [val_main_v270, val_main_v271, val_main_v272, val_main_cst_79, val_main_cst_80, ow_at, Row.mean]

/-- The mean protection. -/
theorem mean_up_at : val_main_v275 (F := Ideal) A.x0 A.x1 A.x2 A.x3 A.x4 A.x5 A.x6 A.x7 A.x10 A.x11 A.x12 A.x13 A.x16 A.x17 A.x18 A.x19 A.x20 A.x21 (ix1 b) = Row.mean (A.row b).up := by
  pointwise [val_main_v273, val_main_v274, val_main_v275, val_main_cst_81, val_main_cst_82, up_at, Row.mean]

/-- The write strength, one per row. -/
theorem ws_row : val_main_v267 (F := Ideal) A.x0 A.x10 A.x11 (ix1 b) = (A.row b).ws := by pointwise [val_main_v267, ws_at]

/-- The merge preference, one per row. -/
theorem mp_row : val_main_v268 (F := Ideal) A.x0 A.x1 A.x2 A.x4 A.x5 A.x6 A.x7 A.x12 A.x13 A.x18 A.x19 (ix1 b) = (A.row b).mp := by pointwise [val_main_v268, mp_at]

/-- The binding strength, one per row. -/
theorem bs_row : val_main_v269 (F := Ideal) A.x0 A.x1 A.x6 A.x7 A.x14 A.x15 (ix1 b) = (A.row b).bs := by pointwise [val_main_v269, bs_at]

/-- The greatest similarity, one per row. -/
theorem msim_row : val_main_v276 (F := Ideal) A.x0 A.x1 A.x6 A.x7 (ix1 b) = (A.row b).sim (A.row b).mi := by pointwise [val_main_v276, msim_at]

end Cert.Proof.Ref

end
-- ==== Proof.Values.lean ====
/- The ten results as functions of the arguments, and that both programs leave them. Hand-written, untrusted. -/
module

public import proofs.«01_k».proof.Defs
public import proofs.«01_k».proof.Proof.Arrays
public import proofs.«01_k».proof.Proof.Ref2
public import proofs.«01_k».proof.Proof.Gen.KernelIdeal.Run
public import proofs.«01_k».proof.Proof.Gen.ReferenceIdeal.Run

@[expose] public section

set_option maxRecDepth 16384

noncomputable section

namespace Cert.Proof

open Idealize.ShloMosaic Idealize.ShloMosaic.TcCoe Idealize.SL.Sem Idealize.ShloMosaic.StableHlo

/-! ## The results -/

namespace Args
variable (A : Args)

/-- The updated keys. -/
def uk : Arr ⟨3, ![1024, 256, 128]⟩ := fun i => (A.row (i 0)).uk (i 1) (i 2)
/-- The updated values. -/
def uv : Arr ⟨3, ![1024, 256, 128]⟩ := fun i => (A.row (i 0)).uv (i 1) (i 2)
/-- The updated protection. -/
def up : Arr ⟨2, ![1024, 256]⟩ := fun i => (A.row (i 0)).up (i 1)
/-- The binding strengths. -/
def bs : Arr ⟨1, ![1024]⟩ := fun i => (A.row (i 0)).bs
/-- The greatest similarities. -/
def ms : Arr ⟨1, ![1024]⟩ := fun i => (A.row (i 0)).sim (A.row (i 0)).mi
/-- The merge preferences. -/
def mp : Arr ⟨1, ![1024]⟩ := fun i => (A.row (i 0)).mp
/-- The mean masses written. -/
def mo : Arr ⟨1, ![1024]⟩ := fun i => Row.mean (A.row (i 0)).ow
/-- The mean protections. -/
def mu : Arr ⟨1, ![1024]⟩ := fun i => Row.mean (A.row (i 0)).up
/-- The masses written. -/
def ow : Arr ⟨2, ![1024, 256]⟩ := fun i => (A.row (i 0)).ow (i 1)
/-- The write strengths. -/
def ws : Arr ⟨1, ![1024]⟩ := fun i => (A.row (i 0)).ws

end Args

/-! ## The kernel's results -/

section Kernel

open Cert.KernelIdeal Cert.KernelIdeal.Gen

variable (A : Args)

/-- The array of packed results. -/
def pk : Arr S1024x640 := fun i => Blk.pack (A.row (i 0)) (i 1)

/-- The first 256 columns are the updated protection. -/
theorem pk_up {X : Arr S1024x640} (h : X = pk A) :
    extractStridedSlice S1024x256 ![0, 0] X slices_S1024x640_S1024x256_0_0 = A.up := by
  subst h; funext i; idx_vars i
  pointwise [pk, Args.up]
  exact dif_pos i1.isLt

/-- The next 256 columns are the masses written. -/
theorem pk_ow {X : Arr S1024x640} (h : X = pk A) :
    extractStridedSlice S1024x256 ![0, 256] X slices_S1024x640_S1024x256_0_256 = A.ow := by
  subst h; funext i; idx_vars i
  pointwise [pk, Args.ow]
  rw [Blk.pack, dif_neg (by simp), dif_pos (by simp)]
  exact congrArg _ (Fin.ext (Nat.add_sub_cancel_left 256 i1.1))

/-- A single column, read as a vector over the batch. -/
theorem pk_col {X : Arr S1024x640} (h : X = pk A) (n : Fin 640) (s : S1024x640.Slices ![0, n.1] S1024x1) :
    shapeCast _ (extractStridedSlice S1024x1 ![0, n.1] X s) shapeCasts_S1024x1_S1024
      = fun i => Blk.pack (A.row (i 0)) n := by
  subst h; funext i; idx_vars i
  pointwise [pk]

end Kernel

/-! ## The reference's results -/

section Reference

open Cert.ReferenceIdeal Cert.ReferenceIdeal.Gen Cert.ReferenceIdeal.Read

variable (A : Args)

/-- The reference's updated keys. -/
theorem ref_uk : val_main_v248 (F := Ideal) A.x0 A.x1 A.x2 A.x3 A.x4 A.x5 A.x6 A.x7 A.x10 A.x11 A.x12 A.x13 A.x14 A.x15 A.x18 A.x19 A.x20 A.x21 = A.uk := by
  funext i; idx_vars i; exact Ref.uk_at A i0 i1 i2

/-- The reference's updated values. -/
theorem ref_uv : val_main_v256 (F := Ideal) A.x0 A.x1 A.x2 A.x3 A.x4 A.x5 A.x6 A.x7 A.x8 A.x9 A.x10 A.x11 A.x12 A.x13 A.x16 A.x17 A.x18 A.x19 A.x20 A.x21 = A.uv := by
  funext i; idx_vars i; exact Ref.uv_at A i0 i1 i2

/-- The reference's updated protection. -/
theorem ref_up : val_main_v266 (F := Ideal) A.x0 A.x1 A.x2 A.x3 A.x4 A.x5 A.x6 A.x7 A.x10 A.x11 A.x12 A.x13 A.x16 A.x17 A.x18 A.x19 A.x20 A.x21 = A.up := by
  funext i; idx_vars i; exact Ref.up_at A i0 i1

/-- The reference's binding strengths. -/
theorem ref_bs : val_main_v269 (F := Ideal) A.x0 A.x1 A.x6 A.x7 A.x14 A.x15 = A.bs := by
  funext i; idx_vars i; exact Ref.bs_row A i0

/-- The reference's greatest similarities. -/
theorem ref_ms : val_main_v276 (F := Ideal) A.x0 A.x1 A.x6 A.x7 = A.ms := by
  funext i; idx_vars i; exact Ref.msim_row A i0

/-- The reference's merge preferences. -/
theorem ref_mp : val_main_v268 (F := Ideal) A.x0 A.x1 A.x2 A.x4 A.x5 A.x6 A.x7 A.x12 A.x13 A.x18 A.x19 = A.mp := by
  funext i; idx_vars i; exact Ref.mp_row A i0

/-- The reference's mean masses written. -/
theorem ref_mo : val_main_v272 (F := Ideal) A.x0 A.x1 A.x2 A.x3 A.x4 A.x5 A.x6 A.x7 A.x10 A.x11 A.x12 A.x13 A.x18 A.x19 A.x20 A.x21 = A.mo := by
  funext i; idx_vars i; exact Ref.mean_ow_at A i0

/-- The reference's mean protections. -/
theorem ref_mu : val_main_v275 (F := Ideal) A.x0 A.x1 A.x2 A.x3 A.x4 A.x5 A.x6 A.x7 A.x10 A.x11 A.x12 A.x13 A.x16 A.x17 A.x18 A.x19 A.x20 A.x21 = A.mu := by
  funext i; idx_vars i; exact Ref.mean_up_at A i0

/-- The reference's masses written. -/
theorem ref_ow : val_main_v217 (F := Ideal) A.x0 A.x1 A.x2 A.x3 A.x4 A.x5 A.x6 A.x7 A.x10 A.x11 A.x12 A.x13 A.x18 A.x19 A.x20 A.x21 = A.ow := by
  funext i; idx_vars i; exact Ref.ow_at A i0 i1

/-- The reference's write strengths. -/
theorem ref_ws : val_main_v267 (F := Ideal) A.x0 A.x10 A.x11 = A.ws := by
  funext i; idx_vars i; exact Ref.ws_row A i0

end Reference

end Cert.Proof

end
-- ==== Proof.Algebraic.lean ====
/- Kernel and reference, run on the same arguments, leave the same ten results. Hand-written, untrusted. -/
module

public import proofs.«01_k».proof.Defs
public import proofs.«01_k».proof.Proof.Values
public import proofs.«01_k».proof.Proof.Gen.KernelIdeal.Run
public import proofs.«01_k».proof.Proof.Gen.ReferenceIdeal.Read
public import proofs.«01_k».proof.Proof.Gen.ReferenceIdeal.Run

@[expose] public section

set_option maxRecDepth 16384

noncomputable section

namespace Cert.Proof

open Idealize.ShloMosaic Idealize.ShloMosaic.TcCoe Idealize.SL.Sem Idealize.ShloMosaic.StableHlo

section Reference

open Cert.ReferenceIdeal Cert.ReferenceIdeal.Gen Cert.ReferenceIdeal.Read

/-- The arguments of the reference on one device, as its launch memory holds them. -/
def rargs (m' : (ℓ : Loc nD τ sig) → Buf (Elt Ideal) ℓ) (c : Dev nD) : Args where
  x0 := launchContents m' c (Proc.devRef .tc main_arg0)
  x1 := launchContents m' c (Proc.devRef .tc main_arg1)
  x2 := launchContents m' c (Proc.devRef .tc main_arg2)
  x3 := launchContents m' c (Proc.devRef .tc main_arg3)
  x4 := launchContents m' c (Proc.devRef .tc main_arg4)
  x5 := launchContents m' c (Proc.devRef .tc main_arg5)
  x6 := launchContents m' c (Proc.devRef .tc main_arg6)
  x7 := launchContents m' c (Proc.devRef .tc main_arg7)
  x8 := launchContents m' c (Proc.devRef .tc main_arg8)
  x9 := launchContents m' c (Proc.devRef .tc main_arg9)
  x10 := launchContents m' c (Proc.devRef .tc main_arg10)
  x11 := launchContents m' c (Proc.devRef .tc main_arg11)
  x12 := launchContents m' c (Proc.devRef .tc main_arg12)
  x13 := launchContents m' c (Proc.devRef .tc main_arg13)
  x14 := launchContents m' c (Proc.devRef .tc main_arg14)
  x15 := launchContents m' c (Proc.devRef .tc main_arg15)
  x16 := launchContents m' c (Proc.devRef .tc main_arg16)
  x17 := launchContents m' c (Proc.devRef .tc main_arg17)
  x18 := launchContents m' c (Proc.devRef .tc main_arg18)
  x19 := launchContents m' c (Proc.devRef .tc main_arg19)
  x20 := launchContents m' c (Proc.devRef .tc main_arg20)
  x21 := launchContents m' c (Proc.devRef .tc main_arg21)

end Reference

open Cert.KernelIdeal.Gen Cert.ReferenceIdeal.Read in
/-- From memories that agree on the arguments, kernel and reference end with the same ten results, and
    each with its arguments unchanged. -/
theorem algebraic : Cert.algebraic_KernelIdeal_ReferenceIdeal := by
  intro m g m' g' _ same
  have e : ∀ c, rargs m' c = kargs m c := fun c => (Args.mk.injEq ..).mpr (same c)
  refine ⟨fun c => (kargs m c).uk, fun c => (kargs m c).uv, fun c => (kargs m c).up, fun c => (kargs m c).bs, fun c => (kargs m c).ms, fun c => (kargs m c).mp, fun c => (kargs m c).mo, fun c => (kargs m c).mu, fun c => (kargs m c).ow, fun c => (kargs m c).ws, ?_, ?_⟩
  · refine (θ_run _ _ _).mono (fun r h c => ?_) (Cert.KernelIdeal.Value.run m g)
    obtain ⟨h0, h1, h2, h3, h4, h5, h6, h7, h8, h9, rest⟩ := h c
    exact ⟨
      h0.trans (keys m c),
      h1.trans (values m c),
      h2.trans (pk_up _ (packed m c)),
      h3.trans (pk_col _ (packed m c) 514 _),
      h4.trans (pk_col _ (packed m c) 517 _),
      h5.trans (pk_col _ (packed m c) 513 _),
      h6.trans (pk_col _ (packed m c) 515 _),
      h7.trans (pk_col _ (packed m c) 516 _),
      h8.trans (pk_ow _ (packed m c)),
      h9.trans (pk_col _ (packed m c) 512 _),
      rest⟩
  · refine (θ_run _ _ _).mono (fun r h c => ?_) (Cert.ReferenceIdeal.Value.run m' g')
    obtain ⟨h0, h1, h2, h3, h4, h5, h6, h7, h8, h9, rest⟩ := h c
    replace e := e c
    exact ⟨
      h0.trans ((val_main_v248_eq _).trans ((ref_uk (rargs m' c)).trans (congrArg Args.uk e))),
      h1.trans ((val_main_v256_eq _).trans ((ref_uv (rargs m' c)).trans (congrArg Args.uv e))),
      h2.trans ((val_main_v266_eq _).trans ((ref_up (rargs m' c)).trans (congrArg Args.up e))),
      h3.trans ((val_main_v269_eq _).trans ((ref_bs (rargs m' c)).trans (congrArg Args.bs e))),
      h4.trans ((val_main_v276_eq _).trans ((ref_ms (rargs m' c)).trans (congrArg Args.ms e))),
      h5.trans ((val_main_v268_eq _).trans ((ref_mp (rargs m' c)).trans (congrArg Args.mp e))),
      h6.trans ((val_main_v272_eq _).trans ((ref_mo (rargs m' c)).trans (congrArg Args.mo e))),
      h7.trans ((val_main_v275_eq _).trans ((ref_mu (rargs m' c)).trans (congrArg Args.mu e))),
      h8.trans ((val_main_v217_eq _).trans ((ref_ow (rargs m' c)).trans (congrArg Args.ow e))),
      h9.trans ((val_main_v267_eq _).trans ((ref_ws (rargs m' c)).trans (congrArg Args.ws e))),
      rest⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.ReferenceIdeal.Read
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Kernel, idealized kernel and reference run without fault and leave their arguments; the idealized kernel is the kernel;
    and over the extended reals kernel and reference end with the same ten results. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
